-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x1024 : Shape := ⟨3, ![2, 2048, 1024]⟩
abbrev S4096x1024 : Shape := ⟨2, ![4096, 1024]⟩
abbrev S2048x4 : Shape := ⟨2, ![2048, 4]⟩
abbrev S2048 : Shape := ⟨1, ![2048]⟩
abbrev S96x2048 : Shape := ⟨2, ![96, 2048]⟩
abbrev S2048x64 : Shape := ⟨2, ![2048, 64]⟩
abbrev S1024x2048 : Shape := ⟨2, ![1024, 2048]⟩
abbrev S2048x16 : Shape := ⟨2, ![2048, 16]⟩
abbrev S4x2048 : Shape := ⟨2, ![4, 2048]⟩
abbrev S1x2048 : Shape := ⟨2, ![1, 2048]⟩
abbrev S16x2048 : Shape := ⟨2, ![16, 2048]⟩
abbrev S1x128x1024 : Shape := ⟨3, ![1, 128, 1024]⟩
abbrev S8x2048 : Shape := ⟨2, ![8, 2048]⟩
abbrev S128x2048 : Shape := ⟨2, ![128, 2048]⟩
abbrev S128x1024 : Shape := ⟨2, ![128, 1024]⟩
abbrev S128x4096 : Shape := ⟨2, ![128, 4096]⟩
abbrev S3x2048 : Shape := ⟨2, ![3, 2048]⟩
abbrev S131x2048 : Shape := ⟨2, ![131, 2048]⟩
abbrev S128x96 : Shape := ⟨2, ![128, 96]⟩
abbrev S128x64 : Shape := ⟨2, ![128, 64]⟩
abbrev S128x32 : Shape := ⟨2, ![128, 32]⟩
abbrev S32x128 : Shape := ⟨2, ![32, 128]⟩
abbrev S16x1 : Shape := ⟨2, ![16, 1]⟩

abbrev nBuf : Space → Nat
  | .hbm => 21
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S4096x1024, .f32⟩
  | .hbm, ⟨2, _⟩ => ⟨S2048x4, .f32⟩
  | .hbm, ⟨3, _⟩ => ⟨S2048, .f32⟩
  | .hbm, ⟨4, _⟩ => ⟨S96x2048, .f32⟩
  | .hbm, ⟨5, _⟩ => ⟨S2048x64, .f32⟩
  | .hbm, ⟨6, _⟩ => ⟨S2048, .f32⟩
  | .hbm, ⟨7, _⟩ => ⟨S1024x2048, .f32⟩
  | .hbm, ⟨8, _⟩ => ⟨S2048x16, .f32⟩
  | .hbm, ⟨9, _⟩ => ⟨S2048, .f32⟩
  | .hbm, ⟨10, _⟩ => ⟨S2x2048x1024, .bf16⟩
  | .hbm, ⟨11, _⟩ => ⟨S4096x1024, .bf16⟩
  | .hbm, ⟨12, _⟩ => ⟨S96x2048, .bf16⟩
  | .hbm, ⟨13, _⟩ => ⟨S2048x64, .bf16⟩
  | .hbm, ⟨14, _⟩ => ⟨S1024x2048, .bf16⟩
  | .hbm, ⟨15, _⟩ => ⟨S4x2048, .f32⟩
  | .hbm, ⟨16, _⟩ => ⟨S1x2048, .f32⟩
  | .hbm, ⟨17, _⟩ => ⟨S1x2048, .f32⟩
  | .hbm, ⟨18, _⟩ => ⟨S16x2048, .f32⟩
  | .hbm, ⟨19, _⟩ => ⟨S1x2048, .f32⟩
  | .hbm, ⟨20, _⟩ => ⟨S2x2048x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S4096x1024, .bf16⟩
  | .local _ .vmem, ⟨3, _⟩ => ⟨S4x2048, .f32⟩
  | .local _ .vmem, ⟨4, _⟩ => ⟨S1x2048, .f32⟩
  | .local _ .vmem, ⟨5, _⟩ => ⟨S96x2048, .bf16⟩
  | .local _ .vmem, ⟨6, _⟩ => ⟨S2048x64, .bf16⟩
  | .local _ .vmem, ⟨7, _⟩ => ⟨S1x2048, .f32⟩
  | .local _ .vmem, ⟨8, _⟩ => ⟨S1024x2048, .bf16⟩
  | .local _ .vmem, ⟨9, _⟩ => ⟨S16x2048, .f32⟩
  | .local _ .vmem, ⟨10, _⟩ => ⟨S1x2048, .f32⟩
  | .local _ .vmem, ⟨11, _⟩ => ⟨S1x128x1024, .f32⟩
  | .local _ .vmem, ⟨12, _⟩ => ⟨S1x128x1024, .f32⟩
  | .local _ .vmem, ⟨13, _⟩ => ⟨S16x2048, .f32⟩
  | .local _ .vmem, ⟨14, _⟩ => ⟨S8x2048, .f32⟩
  | .local _ .vmem, ⟨15, _⟩ => ⟨S128x2048, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S96x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S2x2048x1024 : Shape := ⟨3, ![2, 2048, 1024]⟩
abbrev S4096x1024 : Shape := ⟨2, ![4096, 1024]⟩
abbrev S2048x4 : Shape := ⟨2, ![2048, 4]⟩
abbrev S2048 : Shape := ⟨1, ![2048]⟩
abbrev S96x2048 : Shape := ⟨2, ![96, 2048]⟩
abbrev S2048x64 : Shape := ⟨2, ![2048, 64]⟩
abbrev S1024x2048 : Shape := ⟨2, ![1024, 2048]⟩
abbrev S2048x16 : Shape := ⟨2, ![2048, 16]⟩
abbrev S2x2048x4096 : Shape := ⟨3, ![2, 2048, 4096]⟩
abbrev S2x2048x2048 : Shape := ⟨3, ![2, 2048, 2048]⟩
abbrev S_ : Shape := ⟨0, ![]⟩
abbrev S2x2051x2048 : Shape := ⟨3, ![2, 2051, 2048]⟩
abbrev S2048x1 : Shape := ⟨2, ![2048, 1]⟩
abbrev S1x1x2048 : Shape := ⟨3, ![1, 1, 2048]⟩
abbrev S2x2048x96 : Shape := ⟨3, ![2, 2048, 96]⟩
abbrev S2x2048x64 : Shape := ⟨3, ![2, 2048, 64]⟩
abbrev S2x2048x16 : Shape := ⟨3, ![2, 2048, 16]⟩
abbrev S2x2048x2048x1 : Shape := ⟨4, ![2, 2048, 2048, 1]⟩
abbrev S1x1x2048x16 : Shape := ⟨4, ![1, 1, 2048, 16]⟩
abbrev S2x2048x2048x16 : Shape := ⟨4, ![2, 2048, 2048, 16]⟩
abbrev S2x2048x1x16 : Shape := ⟨4, ![2, 2048, 1, 16]⟩
abbrev S2048x2x2048x16 : Shape := ⟨4, ![2048, 2, 2048, 16]⟩
abbrev S2048x2x16 : Shape := ⟨3, ![2048, 2, 16]⟩
abbrev S2048x2x2048 : Shape := ⟨3, ![2048, 2, 2048]⟩
abbrev S1x2x2048x16 : Shape := ⟨4, ![1, 2, 2048, 16]⟩
abbrev S1x2x16 : Shape := ⟨3, ![1, 2, 16]⟩
abbrev S2x16 : Shape := ⟨2, ![2, 16]⟩
abbrev S2x2048 : Shape := ⟨2, ![2, 2048]⟩
abbrev S1x2x2048 : Shape := ⟨3, ![1, 2, 2048]⟩

abbrev nBuf : Space → Nat
  | .hbm => 151
  | .vmem => 0
  | .smem => 0
  | _ => 0

abbrev hbmTy0_0 (i : Nat) : BufTy := match i % 128 with
  | 0 => ⟨S2x2048x1024, .f32⟩
  | 1 => ⟨S4096x1024, .f32⟩
  | 2 => ⟨S2048x4, .f32⟩
  | 3 => ⟨S2048, .f32⟩
  | 4 => ⟨S96x2048, .f32⟩
  | 5 => ⟨S2048x64, .f32⟩
  | 6 => ⟨S2048, .f32⟩
  | 7 => ⟨S1024x2048, .f32⟩
  | 8 => ⟨S2048x16, .f32⟩
  | 9 => ⟨S2048, .f32⟩
  | 10 => ⟨S2x2048x4096, .f32⟩
  | 11 => ⟨S2x2048x2048, .f32⟩
  | 12 => ⟨S2x2048x2048, .f32⟩
  | 13 => ⟨S_, .i32⟩
  | 14 => ⟨S_, .f32⟩
  | 15 => ⟨S2x2051x2048, .f32⟩
  | 16 => ⟨S2x2048x2048, .f32⟩
  | 17 => ⟨S2048x1, .f32⟩
  | 18 => ⟨S2048, .f32⟩
  | 19 => ⟨S1x1x2048, .f32⟩
  | 20 => ⟨S2x2048x2048, .f32⟩
  | 21 => ⟨S2x2048x2048, .f32⟩
  | 22 => ⟨S_, .f32⟩
  | 23 => ⟨S2x2048x2048, .f32⟩
  | 24 => ⟨S2x2048x2048, .f32⟩
  | 25 => ⟨S2x2048x2048, .f32⟩
  | 26 => ⟨S2048x1, .f32⟩
  | 27 => ⟨S2048, .f32⟩
  | 28 => ⟨S1x1x2048, .f32⟩
  | 29 => ⟨S2x2048x2048, .f32⟩
  | 30 => ⟨S2x2048x2048, .f32⟩
  | 31 => ⟨S2x2048x2048, .f32⟩
  | 32 => ⟨S2x2048x2048, .f32⟩
  | 33 => ⟨S2048x1, .f32⟩
  | 34 => ⟨S2048, .f32⟩
  | 35 => ⟨S1x1x2048, .f32⟩
  | 36 => ⟨S2x2048x2048, .f32⟩
  | 37 => ⟨S2x2048x2048, .f32⟩
  | 38 => ⟨S2x2048x2048, .f32⟩
  | 39 => ⟨S2x2048x2048, .f32⟩
  | 40 => ⟨S2048x1, .f32⟩
  | 41 => ⟨S2048, .f32⟩
  | 42 => ⟨S1x1x2048, .f32⟩
  | 43 => ⟨S2x2048x2048, .f32⟩
  | 44 => ⟨S2x2048x2048, .f32⟩
  | 45 => ⟨S2x2048x2048, .f32⟩
  | 46 => ⟨S1x1x2048, .f32⟩
  | 47 => ⟨S2x2048x2048, .f32⟩
  | 48 => ⟨S2x2048x2048, .f32⟩
  | 49 => ⟨S2x2048x2048, .f32⟩
  | 50 => ⟨S2x2048x2048, .f32⟩
  | 51 => ⟨S_, .f32⟩
  | 52 => ⟨S2x2048x2048, .f32⟩
  | 53 => ⟨S2x2048x2048, .f32⟩
  | 54 => ⟨S_, .f32⟩
  | 55 => ⟨S2x2048x2048, .f32⟩
  | 56 => ⟨S2x2048x2048, .f32⟩
  | 57 => ⟨S2x2048x2048, .f32⟩
  | 58 => ⟨S2x2048x96, .f32⟩
  | 59 => ⟨S2x2048x64, .f32⟩
  | 60 => ⟨S2x2048x16, .f32⟩
  | 61 => ⟨S2x2048x16, .f32⟩
  | 62 => ⟨S2x2048x2048, .f32⟩
  | 63 => ⟨S1x1x2048, .f32⟩
  | 64 => ⟨S2x2048x2048, .f32⟩
  | 65 => ⟨S2x2048x2048, .f32⟩
  | 66 => ⟨S_, .f32⟩
  | 67 => ⟨S2x2048x2048, .f32⟩
  | 68 => ⟨S2x2048x2048, .f32⟩
  | 69 => ⟨S2x2048x2048, .f32⟩
  | 70 => ⟨S2x2048x2048, .f32⟩
  | 71 => ⟨S2x2048x2048, .i1⟩
  | 72 => ⟨S2x2048x2048, .f32⟩
  | 73 => ⟨S2x2048x2048, .f32⟩
  | 74 => ⟨S2x2048x2048, .f32⟩
  | 75 => ⟨S2x2048x2048, .f32⟩
  | 76 => ⟨S2x2048x2048, .f32⟩
  | 77 => ⟨S2x2048x2048, .f32⟩
  | 78 => ⟨S2x2048x2048, .f32⟩
  | 79 => ⟨S2x2048x2048, .f32⟩
  | 80 => ⟨S2048x16, .f32⟩
  | 81 => ⟨S2048x16, .f32⟩
  | 82 => ⟨S2x2048x2048x1, .f32⟩
  | 83 => ⟨S1x1x2048x16, .f32⟩
  | 84 => ⟨S2x2048x2048x16, .f32⟩
  | 85 => ⟨S2x2048x2048x16, .f32⟩
  | 86 => ⟨S2x2048x2048x16, .f32⟩
  | 87 => ⟨S2x2048x2048x16, .f32⟩
  | 88 => ⟨S2x2048x2048x1, .f32⟩
  | 89 => ⟨S2x2048x1x16, .f32⟩
  | 90 => ⟨S2x2048x2048x16, .f32⟩
  | 91 => ⟨S2x2048x2048x16, .f32⟩
  | 92 => ⟨S2x2048x2048x16, .f32⟩
  | 93 => ⟨S2x2048x2048x1, .f32⟩
  | 94 => ⟨S2x2048x2048x16, .f32⟩
  | 95 => ⟨S2x2048x2048x16, .f32⟩
  | 96 => ⟨S_, .f32⟩
  | 97 => ⟨S2x2048x16, .f32⟩
  | 98 => ⟨S2048x2x2048x16, .f32⟩
  | 99 => ⟨S2048x2x2048x16, .f32⟩
  | 100 => ⟨S2048x2x16, .f32⟩
  | 101 => ⟨S_, .f32⟩
  | 102 => ⟨S2048x2x2048, .f32⟩
  | 103 => ⟨S_, .i32⟩
  | 104 => ⟨S2048x2x2048x16, .f32⟩
  | 105 => ⟨S2048x2x2048x16, .f32⟩
  | 106 => ⟨S2048x2x16, .f32⟩
  | 107 => ⟨S_, .i32⟩
  | 108 => ⟨S2x2048x16, .f32⟩
  | 109 => ⟨S2048x2x2048, .f32⟩
  | 110 => ⟨S_, .i32⟩
  | 111 => ⟨S_, .i1⟩
  | 112 => ⟨S_, .i32⟩
  | 113 => ⟨S_, .i32⟩
  | 114 => ⟨S_, .i32⟩
  | 115 => ⟨S1x2x2048x16, .f32⟩
  | 116 => ⟨S2x2048x16, .f32⟩
  | 117 => ⟨S_, .i32⟩
  | 118 => ⟨S_, .i32⟩
  | 119 => ⟨S_, .i32⟩
  | 120 => ⟨S1x2x2048x16, .f32⟩
  | 121 => ⟨S2x2048x16, .f32⟩
  | 122 => ⟨S_, .i32⟩
  | 123 => ⟨S_, .i32⟩
  | 124 => ⟨S1x2x16, .f32⟩
  | 125 => ⟨S2x16, .f32⟩
  | 126 => ⟨S2x2048x16, .f32⟩
  | 127 => ⟨S2x2048x16, .f32⟩
  | _ => ⟨S2x2048x1024, .f32⟩

abbrev hbmTy0_1 (i : Nat) : BufTy := match i % 128 with
  | 0 => ⟨S2x2048, .f32⟩
  | 1 => ⟨S1x2x2048, .f32⟩
  | 2 => ⟨S_, .i32⟩
  | 3 => ⟨S_, .i32⟩
  | 4 => ⟨S2048x2x2048, .f32⟩
  | 5 => ⟨S_, .i32⟩
  | 6 => ⟨S_, .i32⟩
  | 7 => ⟨S2x2048x2048, .f32⟩
  | 8 => ⟨S1x1x2048, .f32⟩
  | 9 => ⟨S2x2048x2048, .f32⟩
  | 10 => ⟨S2x2048x2048, .f32⟩
  | 11 => ⟨S2x2048x2048, .f32⟩
  | 12 => ⟨S2x2048x2048, .f32⟩
  | 13 => ⟨S2x2048x2048, .f32⟩
  | 14 => ⟨S_, .f32⟩
  | 15 => ⟨S2x2048x2048, .f32⟩
  | 16 => ⟨S2x2048x2048, .f32⟩
  | 17 => ⟨S_, .f32⟩
  | 18 => ⟨S2x2048x2048, .f32⟩
  | 19 => ⟨S2x2048x2048, .f32⟩
  | 20 => ⟨S2x2048x2048, .f32⟩
  | 21 => ⟨S2x2048x2048, .f32⟩
  | 22 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_0 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_1 : Ref sig .tc := ⟨.hbm, 101, rfl⟩
abbrev main_v66 : Ref sig .tc := ⟨.hbm, 102, rfl⟩
abbrev main_c_2 : Ref sig .tc := ⟨.hbm, 103, rfl⟩
abbrev main_v67_0 : Ref sig .tc := ⟨.hbm, 104, rfl⟩
abbrev main_v67_1 : Ref sig .tc := ⟨.hbm, 105, rfl⟩
abbrev main_v67_2 : Ref sig .tc := ⟨.hbm, 106, rfl⟩
abbrev main_v67_3 : Ref sig .tc := ⟨.hbm, 107, rfl⟩
abbrev main_v67_4 : Ref sig .tc := ⟨.hbm, 108, rfl⟩
abbrev main_v67_5 : Ref sig .tc := ⟨.hbm, 109, rfl⟩
abbrev main_while0c_c_8 : Ref sig .tc := ⟨.hbm, 110, rfl⟩
abbrev main_while0c_v76 : Ref sig .tc := ⟨.hbm, 111, rfl⟩
abbrev main_while0b_call3_c : Ref sig .tc := ⟨.hbm, 112, rfl⟩
abbrev main_while0b_call3_c_0 : Ref sig .tc := ⟨.hbm, 113, rfl⟩
abbrev main_while0b_call3_c_1 : Ref sig .tc := ⟨.hbm, 114, rfl⟩
abbrev main_while0b_call3_v0 : Ref sig .tc := ⟨.hbm, 115, rfl⟩
abbrev main_while0b_v76 : Ref sig .tc := ⟨.hbm, 116, rfl⟩
abbrev main_while0b_call4_c : Ref sig .tc := ⟨.hbm, 117, rfl⟩
abbrev main_while0b_call4_c_0 : Ref sig .tc := ⟨.hbm, 118, rfl⟩
abbrev main_while0b_call4_c_1 : Ref sig .tc := ⟨.hbm, 119, rfl⟩
abbrev main_while0b_call4_v0 : Ref sig .tc := ⟨.hbm, 120, rfl⟩
abbrev main_while0b_v77 : Ref sig .tc := ⟨.hbm, 121, rfl⟩
abbrev main_while0b_call5_c : Ref sig .tc := ⟨.hbm, 122, rfl⟩
abbrev main_while0b_call5_c_0 : Ref sig .tc := ⟨.hbm, 123, rfl⟩
abbrev main_while0b_call5_v0 : Ref sig .tc := ⟨.hbm, 124, rfl⟩
abbrev main_while0b_v78 : Ref sig .tc := ⟨.hbm, 125, rfl⟩
abbrev main_while0b_v79 : Ref sig .tc := ⟨.hbm, 126, rfl⟩
abbrev main_while0b_v80 : Ref sig .tc := ⟨.hbm, 127, rfl⟩
abbrev main_while0b_v81 : Ref sig .tc := ⟨.hbm, 128, rfl⟩
abbrev main_while0b_call6_v0 : Ref sig .tc := ⟨.hbm, 129, rfl⟩
abbrev main_while0b_call6_c : Ref sig .tc := ⟨.hbm, 130, rfl⟩
abbrev main_while0b_call6_c_0 : Ref sig .tc := ⟨.hbm, 131, rfl⟩
abbrev main_while0b_v82 : Ref sig .tc := ⟨.hbm, 132, rfl⟩
abbrev main_while0b_c_8 : Ref sig .tc := ⟨.hbm, 133, rfl⟩
abbrev main_while0b_v83 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_call7_v0 : Ref sig .tc := ⟨.hbm, 140, rfl⟩
abbrev main_call7_v1 : Ref sig .tc := ⟨.hbm, 141, rfl⟩
abbrev main_call7_cst : Ref sig .tc := ⟨.hbm, 142, rfl⟩
abbrev main_call7_v2 : Ref sig .tc := ⟨.hbm, 143, rfl⟩
abbrev main_call7_v3 : Ref sig .tc := ⟨.hbm, 144, rfl⟩
abbrev main_call7_cst_0 : Ref sig .tc := ⟨.hbm, 145, rfl⟩
abbrev main_call7_v4 : Ref sig .tc := ⟨.hbm, 146, rfl⟩
abbrev main_call7_v5 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩

abbrev nD : Nat := 1
abbrev τ : Topo := Topo.v7x

variable {F : FTy → Type} [FloatOps F]

abbrev main_while0_count : Scf.Loop 32 := ⟨0#32, 2048#32, 1#32⟩
-- ==== Proof.Scan.lean ====
module

public import proofs.«01_k».proof.Proof.Gen.KernelIdeal.Skeleton
public import Idealize.ShloMosaic.Lib.Pipeline.FrameBody
public import Idealize.ShloMosaic.Lib.Pipeline.Value
public import Idealize.ShloMosaic.Lib.Pipeline.ReadBack

@[expose] public section

set_option maxRecDepth 16384

noncomputable section

namespace Cert.KernelIdeal.Block

open Cert.KernelIdeal Cert.KernelIdeal.Gen
open Idealize.ShloMosaic Idealize.ShloMosaic.TcCoe

variable {F : FTy → Type} [FloatOps F]

/-! ## The recurrence over the rows of one block

One block of the sequence has 128 positions. The body updates a state of 16 × 2048 numbers once per position, in order,
and stores one row of results after each update. Here the updates are one recursion on the position. -/

/-- Row `t` of a 128-row array is inside it. -/
theorem row_slices {t : ℕ} (h : t < 128) : S128x2048.Slices ![t, 0] S1x2048 :=
  ⟨rfl, fun a => by fin_cases a <;> simp [S128x2048, S1x2048] <;> omega⟩

/-- The upper half of column `t` of the 32-row array is inside it. -/
theorem colB_slices {t : ℕ} (h : t < 128) : S32x128.Slices ![0, t] S16x1 :=
  ⟨rfl, fun a => by fin_cases a <;> simp [S32x128, S16x1] <;> omega⟩

/-- The lower half of column `t` of the 32-row array is inside it. -/
theorem colC_slices {t : ℕ} (h : t < 128) : S32x128.Slices ![16, t] S16x1 :=
  ⟨rfl, fun a => by fin_cases a <;> simp [S32x128, S16x1] <;> omega⟩

/-- Row `t`, as a store's rectangle, is inside the array of results. -/
theorem row_inb {t : ℕ} (h : t < 128) : ∀ a, (![t, 0] : Fin 2 → ℕ) a + S1x2048.size a ≤ S128x2048.size a := fun a => by
  fin_cases a <;> simp [S128x2048, S1x2048] <;> omega

/-- The state after the first `n` positions, from the state `h` before the block: each position scales the state by
    `exp (A · δ)` and adds the position's input times its `B` column. -/
def state (δ : FVec F S128x2048 .f32) (a : FVec F S16x2048 .f32) (dx : FVec F S128x2048 .f32) (bc : FVec F S32x128 .f32)
    (h : FVec F S16x2048 .f32) : (n : ℕ) → n ≤ 128 → FVec F S16x2048 .f32
  | 0, _ => h
  | n + 1, hn =>
    addf (mulf (exp (mulf a (broadcastTo S16x2048 (extractStridedSlice S1x2048 ![n, 0] δ (row_slices hn)) broadcasts_S1x2048_S16x2048)))
        (state δ a dx bc h n (Nat.le_of_succ_le hn)))
      (mulf (broadcastTo S16x2048 (extractStridedSlice S1x2048 ![n, 0] dx (row_slices hn)) broadcasts_S1x2048_S16x2048)
        (broadcastTo S16x2048 (extractStridedSlice S16x1 ![0, n] bc (colB_slices hn)) broadcasts_S16x1_S16x2048))

/-- The row of results stored at position `n`: the state after it, weighted by the position's `C` column and summed. -/
def resultRow (δ : FVec F S128x2048 .f32) (a : FVec F S16x2048 .f32) (dx : FVec F S128x2048 .f32) (bc : FVec F S32x128 .f32)
    (h : FVec F S16x2048 .f32) (n : ℕ) (hn : n < 128) : FVec F S1x2048 .f32 :=
  shapeCast S1x2048 (shapeCast S1x2048 (multiReduction .add [0] S2048 (mulf (state δ a dx bc h (n + 1) hn)
      (broadcastTo S16x2048 (extractStridedSlice S16x1 ![16, n] bc (colC_slices hn)) broadcasts_S16x1_S16x2048))
    0x00000000#32 reduces_S16x2048_S2048 (.inl rfl) rfl) shapeCasts_S2048_S1x2048) shapeCasts_S1x2048_S1x2048

/-- The stores of the first `n` rows of results, the last one first. -/
def resultRows (δ : FVec F S128x2048 .f32) (a : FVec F S16x2048 .f32) (dx : FVec F S128x2048 .f32) (bc : FVec F S32x128 .f32)
    (h : FVec F S16x2048 .f32) : (n : ℕ) → n ≤ 128 → List (View.Piece (Elt F) S128x2048 .f32)
  | 0, _ => []
  | n + 1, hn => ⟨Rect.unit ![n, 0] S1x2048.size (row_inb hn), resultRow δ a dx bc h n hn⟩
      :: resultRows δ a dx bc h n (Nat.le_of_succ_le hn)

end Cert.KernelIdeal.Block
end
-- ==== Proof.Block.lean ====
module

public import proofs.«01_k».proof.Proof.Gen.KernelIdeal.Frame
public import proofs.«01_k».proof.Proof.Scan

@[expose] public section

set_option maxRecDepth 16384

noncomputable section

namespace Cert.KernelIdeal.Block

open Cert.KernelIdeal Cert.KernelIdeal.Gen
open Idealize.ShloMosaic Idealize.ShloMosaic.TcCoe Idealize.ShloMosaic.Tactic

variable {F : FTy → Type} [FloatOps F]

/-! ## What one grid point computes

`x0 … x9` are the point's input blocks (the activations, the input weights, the convolution's weights and bias, the
projection, the step's weights and bias, the output weights, `A_log` and `D`), `h` and `tl` the state and the last eight
rows that the point before left. -/

/-- The convolution's result over the block's 128 positions. -/
def conv (x0 : Vec F S1x128x1024 .bf16) (x1 : Vec F S4096x1024 .bf16) (x2 : Vec F S4x2048 .f32) (x3 : Vec F S1x2048 .f32)
    (tl : Vec F S8x2048 .f32) : FVec F S128x2048 .f32 :=
  k0_pay7 x0 x1 tl x2 x3

/-- The state after the first `n` positions of the block, from the convolution's result `v` and the state `h` before. -/
def stateOf (v : FVec F S128x2048 .f32) (x4 : Vec F S96x2048 .bf16) (x5 : Vec F S2048x64 .bf16) (x6 : Vec F S1x2048 .f32)
    (x8 : Vec F S16x2048 .f32) (h : FVec F S16x2048 .f32) (n : ℕ) (hn : n ≤ 128) : FVec F S16x2048 .f32 :=
  state (k0_pay12 v x4 x5 x6) (k0_pay13 x8) (k0_pay14 v x4 x5 x6) (k0_pay15 v x4) h n hn

/-- The stores of the block's 128 rows of results. -/
def rowsOf (v : FVec F S128x2048 .f32) (x4 : Vec F S96x2048 .bf16) (x5 : Vec F S2048x64 .bf16) (x6 : Vec F S1x2048 .f32)
    (x8 : Vec F S16x2048 .f32) (h : FVec F S16x2048 .f32) : List (View.Piece (Elt F) S128x2048 .f32) :=
  resultRows (k0_pay12 v x4 x5 x6) (k0_pay13 x8) (k0_pay14 v x4 x5 x6) (k0_pay15 v x4) h 128 le_rfl

/-- The block of the output, from the convolution's result `v` and the state `h` before the block. -/
def outOf (v : FVec F S128x2048 .f32) (x0 : Vec F S1x128x1024 .bf16) (x1 : Vec F S4096x1024 .bf16) (x4 : Vec F S96x2048 .bf16)
    (x5 : Vec F S2048x64 .bf16) (x6 : Vec F S1x2048 .f32) (x7 : Vec F S1024x2048 .bf16) (x8 : Vec F S16x2048 .f32)
    (x9 : Vec F S1x2048 .f32) (h : FVec F S16x2048 .f32) : FVec F S1x128x1024 .f32 :=
  k0_pay1 (k0_pay6 x0 x1) (k0_pay10 v) (View.canon (rowsOf v x4 x5 x6 x8 h)) x9 x7

/-- The last eight rows of the block's input to the convolution. -/
def tailOf (x0 : Vec F S1x128x1024 .bf16) (x1 : Vec F S4096x1024 .bf16) : FVec F S8x2048 .f32 := k0_pay9 (k0_pay8 x0 x1)

theorem zero2 : (![0, 0] : Fin 2 → ℕ) = fun _ => 0 := funext fun a => by fin_cases a <;> rfl
theorem zero3 : (![0, 0, 0] : Fin 3 → ℕ) = fun _ => 0 := funext fun a => by fin_cases a <;> rfl

/-- The whole array of results, loaded after the stores, is what the stores leave. -/
theorem load_rows {sig : RefSig} {κ : Kind} {sp : Space} (w : View sig κ sp S128x2048 .f32) (L : List (View.Piece (Elt F) S128x2048 .f32)) :
    w.readCov L (Rect.unit ![0, 0] S128x2048.size inb_S128x2048_S128x2048_0_0).toLoadRect = View.canon L := by
  rw [View.readCov_eq_canon']
  exact View.ld_unit_zero (S := S128x2048) zero2 inb_S128x2048_S128x2048_0_0 (View.canon L)

/-! ### A point after the first of its sequence -/

/-- A point after the first of its sequence: the output's staging buffer receives the block of the output. -/
theorem out_B (c : Dev nD) (i : grid0.Coords) (arg2 : Memref sig .tc .vmem S1x128x1024 .bf16) (harg2 : arg2.IsWhole) (arg3 : Memref sig .tc .vmem S4096x1024 .bf16) (harg3 : arg3.IsWhole) (arg4 : Memref sig .tc .vmem S4x2048 .f32) (harg4 : arg4.IsWhole) (arg5 : Memref sig .tc .vmem S1x2048 .f32) (harg5 : arg5.IsWhole) (arg6 : Memref sig .tc .vmem S96x2048 .bf16) (harg6 : arg6.IsWhole) (arg7 : Memref sig .tc .vmem S2048x64 .bf16) (harg7 : arg7.IsWhole) (arg8 : Memref sig .tc .vmem S1x2048 .f32) (harg8 : arg8.IsWhole) (arg9 : Memref sig .tc .vmem S1024x2048 .bf16) (harg9 : arg9.IsWhole) (arg10 : Memref sig .tc .vmem S16x2048 .f32) (harg10 : arg10.IsWhole) (arg11 : Memref sig .tc .vmem S1x2048 .f32) (harg11 : arg11.IsWhole) (arg12 : Memref sig .tc .vmem S1x128x1024 .f32) (harg12 : arg12.IsWhole) (arg13 : Memref sig .tc .vmem S16x2048 .f32) (harg13 : arg13.IsWhole) (arg14 : Memref sig .tc .vmem S8x2048 .f32) (harg14 : arg14.IsWhole) (arg15 : Memref sig .tc .vmem S128x2048 .f32) (harg15 : arg15.IsWhole) (hc0 : ¬cond0_0 i) (x0 : Vec F S1x128x1024 .bf16) (x1 : Vec F S4096x1024 .bf16) (x2 : Vec F S4x2048 .f32) (x3 : Vec F S1x2048 .f32) (x4 : Vec F S96x2048 .bf16) (x5 : Vec F S2048x64 .bf16) (x6 : Vec F S1x2048 .f32) (x7 : Vec F S1024x2048 .bf16) (x8 : Vec F S16x2048 .f32) (x9 : Vec F S1x2048 .f32) (xs0 : Vec F S16x2048 .f32) (xs1 : Vec F S8x2048 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 = outOf (conv x0 x1 x2 x3 xs1) x0 x1 x4 x5 x6 x7 x8 x9 xs0 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1),
    show (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1).1 =
      [⟨Rect.unit ![0, 0, 0] S1x128x1024.size inb_S1x128x1024_S1x128x1024_0_0_0,
        k0_pay1 (k0_pay6 (arg2.view.readAt (Elt F) (Rect.unit ![0, 0, 0] S1x128x1024.size inb_S1x128x1024_S1x128x1024_0_0_0).toLoadRect (harg2.unread x0)) (arg3.view.readAt (Elt F) (Rect.unit ![0, 0] S4096x1024.size inb_S4096x1024_S4096x1024_0_0).toLoadRect (harg3.unread x1))) (k0_pay10 (conv (arg2.view.readAt (Elt F) (Rect.unit ![0, 0, 0] S1x128x1024.size inb_S1x128x1024_S1x128x1024_0_0_0).toLoadRect (harg2.unread x0)) (arg3.view.readAt (Elt F) (Rect.unit ![0, 0] S4096x1024.size inb_S4096x1024_S4096x1024_0_0).toLoadRect (harg3.unread x1)) (arg4.view.readAt (Elt F) (Rect.unit ![0, 0] S4x2048.size inb_S4x2048_S4x2048_0_0).toLoadRect (harg4.unread x2)) (arg5.view.readAt (Elt F) (Rect.unit ![0, 0] S1x2048.size inb_S1x2048_S1x2048_0_0).toLoadRect (harg5.unread x3)) (arg14.view.readAt (Elt F) (Rect.unit ![0, 0] S8x2048.size inb_S8x2048_S8x2048_0_0).toLoadRect (harg14.unread xs1))))
          (arg15.view.readCov (rowsOf (conv (arg2.view.readAt (Elt F) (Rect.unit ![0, 0, 0] S1x128x1024.size inb_S1x128x1024_S1x128x1024_0_0_0).toLoadRect (harg2.unread x0)) (arg3.view.readAt (Elt F) (Rect.unit ![0, 0] S4096x1024.size inb_S4096x1024_S4096x1024_0_0).toLoadRect (harg3.unread x1)) (arg4.view.readAt (Elt F) (Rect.unit ![0, 0] S4x2048.size inb_S4x2048_S4x2048_0_0).toLoadRect (harg4.unread x2)) (arg5.view.readAt (Elt F) (Rect.unit ![0, 0] S1x2048.size inb_S1x2048_S1x2048_0_0).toLoadRect (harg5.unread x3)) (arg14.view.readAt (Elt F) (Rect.unit ![0, 0] S8x2048.size inb_S8x2048_S8x2048_0_0).toLoadRect (harg14.unread xs1))) (arg6.view.readAt (Elt F) (Rect.unit ![0, 0] S96x2048.size inb_S96x2048_S96x2048_0_0).toLoadRect (harg6.unread x4)) (arg7.view.readAt (Elt F) (Rect.unit ![0, 0] S2048x64.size inb_S2048x64_S2048x64_0_0).toLoadRect (harg7.unread x5)) (arg8.view.readAt (Elt F) (Rect.unit ![0, 0] S1x2048.size inb_S1x2048_S1x2048_0_0).toLoadRect (harg8.unread x6)) (arg10.view.readAt (Elt F) (Rect.unit ![0, 0] S16x2048.size inb_S16x2048_S16x2048_0_0).toLoadRect (harg10.unread x8)) (arg13.view.readAt (Elt F) (Rect.unit ![0, 0] S16x2048.size inb_S16x2048_S16x2048_0_0).toLoadRect (harg13.unread xs0))) (Rect.unit ![0, 0] S128x2048.size inb_S128x2048_S128x2048_0_0).toLoadRect)
          (arg11.view.readAt (Elt F) (Rect.unit ![0, 0] S1x2048.size inb_S1x2048_S1x2048_0_0).toLoadRect (harg11.unread x9)) (arg9.view.readAt (Elt F) (Rect.unit ![0, 0] S1024x2048.size inb_S1024x2048_S1024x2048_0_0).toLoadRect (harg9.unread x7))⟩] from by sl_kernel_rfl,
    View.canon_unit_zero (S := S1x128x1024) zero3, load_rows]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread,
    View.ld_unit_zero (S := S1x128x1024) zero3, View.ld_unit_zero (S := S4096x1024) zero2, View.ld_unit_zero (S := S4x2048) zero2,
    View.ld_unit_zero (S := S1x2048) zero2, View.ld_unit_zero (S := S96x2048) zero2, View.ld_unit_zero (S := S2048x64) zero2,
    View.ld_unit_zero (S := S1024x2048) zero2, View.ld_unit_zero (S := S16x2048) zero2, View.ld_unit_zero (S := S8x2048) zero2]
  rfl

/-- A point after the first of its sequence: the carried state becomes the state after the block's last position. -/
theorem state_B (c : Dev nD) (i : grid0.Coords) (arg2 : Memref sig .tc .vmem S1x128x1024 .bf16) (harg2 : arg2.IsWhole) (arg3 : Memref sig .tc .vmem S4096x1024 .bf16) (harg3 : arg3.IsWhole) (arg4 : Memref sig .tc .vmem S4x2048 .f32) (harg4 : arg4.IsWhole) (arg5 : Memref sig .tc .vmem S1x2048 .f32) (harg5 : arg5.IsWhole) (arg6 : Memref sig .tc .vmem S96x2048 .bf16) (harg6 : arg6.IsWhole) (arg7 : Memref sig .tc .vmem S2048x64 .bf16) (harg7 : arg7.IsWhole) (arg8 : Memref sig .tc .vmem S1x2048 .f32) (harg8 : arg8.IsWhole) (arg9 : Memref sig .tc .vmem S1024x2048 .bf16) (harg9 : arg9.IsWhole) (arg10 : Memref sig .tc .vmem S16x2048 .f32) (harg10 : arg10.IsWhole) (arg11 : Memref sig .tc .vmem S1x2048 .f32) (harg11 : arg11.IsWhole) (arg12 : Memref sig .tc .vmem S1x128x1024 .f32) (harg12 : arg12.IsWhole) (arg13 : Memref sig .tc .vmem S16x2048 .f32) (harg13 : arg13.IsWhole) (arg14 : Memref sig .tc .vmem S8x2048 .f32) (harg14 : arg14.IsWhole) (arg15 : Memref sig .tc .vmem S128x2048 .f32) (harg15 : arg15.IsWhole) (hc0 : ¬cond0_0 i) (x0 : Vec F S1x128x1024 .bf16) (x1 : Vec F S4096x1024 .bf16) (x2 : Vec F S4x2048 .f32) (x3 : Vec F S1x2048 .f32) (x4 : Vec F S96x2048 .bf16) (x5 : Vec F S2048x64 .bf16) (x6 : Vec F S1x2048 .f32) (x7 : Vec F S1024x2048 .bf16) (x8 : Vec F S16x2048 .f32) (x9 : Vec F S1x2048 .f32) (xs0 : Vec F S16x2048 .f32) (xs1 : Vec F S8x2048 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 = stateOf (conv x0 x1 x2 x3 xs1) x4 x5 x6 x8 xs0 128 le_rfl := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1),
    show (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1).2.1 =
      [⟨Rect.unit ![0, 0] S16x2048.size inb_S16x2048_S16x2048_0_0,
        shapeCast S16x2048 (stateOf (conv (arg2.view.readAt (Elt F) (Rect.unit ![0, 0, 0] S1x128x1024.size inb_S1x128x1024_S1x128x1024_0_0_0).toLoadRect (harg2.unread x0)) (arg3.view.readAt (Elt F) (Rect.unit ![0, 0] S4096x1024.size inb_S4096x1024_S4096x1024_0_0).toLoadRect (harg3.unread x1)) (arg4.view.readAt (Elt F) (Rect.unit ![0, 0] S4x2048.size inb_S4x2048_S4x2048_0_0).toLoadRect (harg4.unread x2)) (arg5.view.readAt (Elt F) (Rect.unit ![0, 0] S1x2048.size inb_S1x2048_S1x2048_0_0).toLoadRect (harg5.unread x3)) (arg14.view.readAt (Elt F) (Rect.unit ![0, 0] S8x2048.size inb_S8x2048_S8x2048_0_0).toLoadRect (harg14.unread xs1))) (arg6.view.readAt (Elt F) (Rect.unit ![0, 0] S96x2048.size inb_S96x2048_S96x2048_0_0).toLoadRect (harg6.unread x4)) (arg7.view.readAt (Elt F) (Rect.unit ![0, 0] S2048x64.size inb_S2048x64_S2048x64_0_0).toLoadRect (harg7.unread x5)) (arg8.view.readAt (Elt F) (Rect.unit ![0, 0] S1x2048.size inb_S1x2048_S1x2048_0_0).toLoadRect (harg8.unread x6)) (arg10.view.readAt (Elt F) (Rect.unit ![0, 0] S16x2048.size inb_S16x2048_S16x2048_0_0).toLoadRect (harg10.unread x8)) (arg13.view.readAt (Elt F) (Rect.unit ![0, 0] S16x2048.size inb_S16x2048_S16x2048_0_0).toLoadRect (harg13.unread xs0)) 128 le_rfl) shapeCasts_S16x2048_S16x2048⟩] from by sl_kernel_rfl,
    View.canon_cons_unit_zero (S := S16x2048) zero2, shapeCast_self]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread,
    View.ld_unit_zero (S := S1x128x1024) zero3, View.ld_unit_zero (S := S4096x1024) zero2, View.ld_unit_zero (S := S4x2048) zero2,
    View.ld_unit_zero (S := S1x2048) zero2, View.ld_unit_zero (S := S96x2048) zero2, View.ld_unit_zero (S := S2048x64) zero2,
    View.ld_unit_zero (S := S1024x2048) zero2, View.ld_unit_zero (S := S16x2048) zero2, View.ld_unit_zero (S := S8x2048) zero2]

/-- A point after the first of its sequence: the carried rows become the last eight rows of the block. -/
theorem tail_B (c : Dev nD) (i : grid0.Coords) (arg2 : Memref sig .tc .vmem S1x128x1024 .bf16) (harg2 : arg2.IsWhole) (arg3 : Memref sig .tc .vmem S4096x1024 .bf16) (harg3 : arg3.IsWhole) (arg4 : Memref sig .tc .vmem S4x2048 .f32) (harg4 : arg4.IsWhole) (arg5 : Memref sig .tc .vmem S1x2048 .f32) (harg5 : arg5.IsWhole) (arg6 : Memref sig .tc .vmem S96x2048 .bf16) (harg6 : arg6.IsWhole) (arg7 : Memref sig .tc .vmem S2048x64 .bf16) (harg7 : arg7.IsWhole) (arg8 : Memref sig .tc .vmem S1x2048 .f32) (harg8 : arg8.IsWhole) (arg9 : Memref sig .tc .vmem S1024x2048 .bf16) (harg9 : arg9.IsWhole) (arg10 : Memref sig .tc .vmem S16x2048 .f32) (harg10 : arg10.IsWhole) (arg11 : Memref sig .tc .vmem S1x2048 .f32) (harg11 : arg11.IsWhole) (arg12 : Memref sig .tc .vmem S1x128x1024 .f32) (harg12 : arg12.IsWhole) (arg13 : Memref sig .tc .vmem S16x2048 .f32) (harg13 : arg13.IsWhole) (arg14 : Memref sig .tc .vmem S8x2048 .f32) (harg14 : arg14.IsWhole) (arg15 : Memref sig .tc .vmem S128x2048 .f32) (harg15 : arg15.IsWhole) (hc0 : ¬cond0_0 i) (x0 : Vec F S1x128x1024 .bf16) (x1 : Vec F S4096x1024 .bf16) (x2 : Vec F S4x2048 .f32) (x3 : Vec F S1x2048 .f32) (x4 : Vec F S96x2048 .bf16) (x5 : Vec F S2048x64 .bf16) (x6 : Vec F S1x2048 .f32) (x7 : Vec F S1024x2048 .bf16) (x8 : Vec F S16x2048 .f32) (x9 : Vec F S1x2048 .f32) (xs0 : Vec F S16x2048 .f32) (xs1 : Vec F S8x2048 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 = tailOf x0 x1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1),
    show (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1).2.2.1 =
      [⟨Rect.unit ![0, 0] S8x2048.size inb_S8x2048_S8x2048_0_0, k0_pay9 (k0_pay8 (arg2.view.readAt (Elt F) (Rect.unit ![0, 0, 0] S1x128x1024.size inb_S1x128x1024_S1x128x1024_0_0_0).toLoadRect (harg2.unread x0)) (arg3.view.readAt (Elt F) (Rect.unit ![0, 0] S4096x1024.size inb_S4096x1024_S4096x1024_0_0).toLoadRect (harg3.unread x1)))⟩] from by sl_kernel_rfl,
    View.canon_cons_unit_zero (S := S8x2048) zero2]
  simp only [View.readAt_eq_ld, harg2.read_unread, harg3.read_unread,
    View.ld_unit_zero (S := S1x128x1024) zero3, View.ld_unit_zero (S := S4096x1024) zero2]
  rfl

/-! ### The first point of a sequence, where state and rows start at zero -/

/-- The first point of a sequence, where state and rows start at zero: the output's staging buffer receives the block of the output. -/
theorem out_A (c : Dev nD) (i : grid0.Coords) (arg2 : Memref sig .tc .vmem S1x128x1024 .bf16) (harg2 : arg2.IsWhole) (arg3 : Memref sig .tc .vmem S4096x1024 .bf16) (harg3 : arg3.IsWhole) (arg4 : Memref sig .tc .vmem S4x2048 .f32) (harg4 : arg4.IsWhole) (arg5 : Memref sig .tc .vmem S1x2048 .f32) (harg5 : arg5.IsWhole) (arg6 : Memref sig .tc .vmem S96x2048 .bf16) (harg6 : arg6.IsWhole) (arg7 : Memref sig .tc .vmem S2048x64 .bf16) (harg7 : arg7.IsWhole) (arg8 : Memref sig .tc .vmem S1x2048 .f32) (harg8 : arg8.IsWhole) (arg9 : Memref sig .tc .vmem S1024x2048 .bf16) (harg9 : arg9.IsWhole) (arg10 : Memref sig .tc .vmem S16x2048 .f32) (harg10 : arg10.IsWhole) (arg11 : Memref sig .tc .vmem S1x2048 .f32) (harg11 : arg11.IsWhole) (arg12 : Memref sig .tc .vmem S1x128x1024 .f32) (harg12 : arg12.IsWhole) (arg13 : Memref sig .tc .vmem S16x2048 .f32) (harg13 : arg13.IsWhole) (arg14 : Memref sig .tc .vmem S8x2048 .f32) (harg14 : arg14.IsWhole) (arg15 : Memref sig .tc .vmem S128x2048 .f32) (harg15 : arg15.IsWhole) (hc0 : cond0_0 i) (x0 : Vec F S1x128x1024 .bf16) (x1 : Vec F S4096x1024 .bf16) (x2 : Vec F S4x2048 .f32) (x3 : Vec F S1x2048 .f32) (x4 : Vec F S96x2048 .bf16) (x5 : Vec F S2048x64 .bf16) (x6 : Vec F S1x2048 .f32) (x7 : Vec F S1024x2048 .bf16) (x8 : Vec F S16x2048 .f32) (x9 : Vec F S1x2048 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = outOf (conv x0 x1 x2 x3 k0_pay3) x0 x1 x4 x5 x6 x7 x8 x9 k0_pay2 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9),
    show (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).1 =
      [⟨Rect.unit ![0, 0, 0] S1x128x1024.size inb_S1x128x1024_S1x128x1024_0_0_0,
        k0_pay1 (k0_pay6 (arg2.view.readAt (Elt F) (Rect.unit ![0, 0, 0] S1x128x1024.size inb_S1x128x1024_S1x128x1024_0_0_0).toLoadRect (harg2.unread x0)) (arg3.view.readAt (Elt F) (Rect.unit ![0, 0] S4096x1024.size inb_S4096x1024_S4096x1024_0_0).toLoadRect (harg3.unread x1))) (k0_pay10 (conv (arg2.view.readAt (Elt F) (Rect.unit ![0, 0, 0] S1x128x1024.size inb_S1x128x1024_S1x128x1024_0_0_0).toLoadRect (harg2.unread x0)) (arg3.view.readAt (Elt F) (Rect.unit ![0, 0] S4096x1024.size inb_S4096x1024_S4096x1024_0_0).toLoadRect (harg3.unread x1)) (arg4.view.readAt (Elt F) (Rect.unit ![0, 0] S4x2048.size inb_S4x2048_S4x2048_0_0).toLoadRect (harg4.unread x2)) (arg5.view.readAt (Elt F) (Rect.unit ![0, 0] S1x2048.size inb_S1x2048_S1x2048_0_0).toLoadRect (harg5.unread x3)) (View.readCov (Val := Elt F) arg14.view [⟨Rect.unit ![0, 0] S8x2048.size inb_S8x2048_S8x2048_0_0, k0_pay3⟩] (Rect.unit ![0, 0] S8x2048.size inb_S8x2048_S8x2048_0_0).toLoadRect)))
          (arg15.view.readCov (rowsOf (conv (arg2.view.readAt (Elt F) (Rect.unit ![0, 0, 0] S1x128x1024.size inb_S1x128x1024_S1x128x1024_0_0_0).toLoadRect (harg2.unread x0)) (arg3.view.readAt (Elt F) (Rect.unit ![0, 0] S4096x1024.size inb_S4096x1024_S4096x1024_0_0).toLoadRect (harg3.unread x1)) (arg4.view.readAt (Elt F) (Rect.unit ![0, 0] S4x2048.size inb_S4x2048_S4x2048_0_0).toLoadRect (harg4.unread x2)) (arg5.view.readAt (Elt F) (Rect.unit ![0, 0] S1x2048.size inb_S1x2048_S1x2048_0_0).toLoadRect (harg5.unread x3)) (View.readCov (Val := Elt F) arg14.view [⟨Rect.unit ![0, 0] S8x2048.size inb_S8x2048_S8x2048_0_0, k0_pay3⟩] (Rect.unit ![0, 0] S8x2048.size inb_S8x2048_S8x2048_0_0).toLoadRect)) (arg6.view.readAt (Elt F) (Rect.unit ![0, 0] S96x2048.size inb_S96x2048_S96x2048_0_0).toLoadRect (harg6.unread x4)) (arg7.view.readAt (Elt F) (Rect.unit ![0, 0] S2048x64.size inb_S2048x64_S2048x64_0_0).toLoadRect (harg7.unread x5)) (arg8.view.readAt (Elt F) (Rect.unit ![0, 0] S1x2048.size inb_S1x2048_S1x2048_0_0).toLoadRect (harg8.unread x6)) (arg10.view.readAt (Elt F) (Rect.unit ![0, 0] S16x2048.size inb_S16x2048_S16x2048_0_0).toLoadRect (harg10.unread x8)) (View.readCov (Val := Elt F) arg13.view [⟨Rect.unit ![0, 0] S16x2048.size inb_S16x2048_S16x2048_0_0, k0_pay2⟩] (Rect.unit ![0, 0] S16x2048.size inb_S16x2048_S16x2048_0_0).toLoadRect)) (Rect.unit ![0, 0] S128x2048.size inb_S128x2048_S128x2048_0_0).toLoadRect)
          (arg11.view.readAt (Elt F) (Rect.unit ![0, 0] S1x2048.size inb_S1x2048_S1x2048_0_0).toLoadRect (harg11.unread x9)) (arg9.view.readAt (Elt F) (Rect.unit ![0, 0] S1024x2048.size inb_S1024x2048_S1024x2048_0_0).toLoadRect (harg9.unread x7))⟩] from by sl_kernel_rfl,
    View.canon_unit_zero (S := S1x128x1024) zero3, load_rows]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S1x128x1024) zero3, View.ld_unit_zero (S := S4096x1024) zero2, View.ld_unit_zero (S := S4x2048) zero2,
    View.ld_unit_zero (S := S1x2048) zero2, View.ld_unit_zero (S := S96x2048) zero2, View.ld_unit_zero (S := S2048x64) zero2,
    View.ld_unit_zero (S := S1024x2048) zero2, View.ld_unit_zero (S := S16x2048) zero2, View.ld_unit_zero (S := S8x2048) zero2,
    View.readCov_unit_zero (S := S16x2048) _ zero2, View.readCov_unit_zero (S := S8x2048) _ zero2]
  rfl

/-- The first point of a sequence, where state and rows start at zero: the carried state becomes the state after the block's last position. -/
theorem state_A (c : Dev nD) (i : grid0.Coords) (arg2 : Memref sig .tc .vmem S1x128x1024 .bf16) (harg2 : arg2.IsWhole) (arg3 : Memref sig .tc .vmem S4096x1024 .bf16) (harg3 : arg3.IsWhole) (arg4 : Memref sig .tc .vmem S4x2048 .f32) (harg4 : arg4.IsWhole) (arg5 : Memref sig .tc .vmem S1x2048 .f32) (harg5 : arg5.IsWhole) (arg6 : Memref sig .tc .vmem S96x2048 .bf16) (harg6 : arg6.IsWhole) (arg7 : Memref sig .tc .vmem S2048x64 .bf16) (harg7 : arg7.IsWhole) (arg8 : Memref sig .tc .vmem S1x2048 .f32) (harg8 : arg8.IsWhole) (arg9 : Memref sig .tc .vmem S1024x2048 .bf16) (harg9 : arg9.IsWhole) (arg10 : Memref sig .tc .vmem S16x2048 .f32) (harg10 : arg10.IsWhole) (arg11 : Memref sig .tc .vmem S1x2048 .f32) (harg11 : arg11.IsWhole) (arg12 : Memref sig .tc .vmem S1x128x1024 .f32) (harg12 : arg12.IsWhole) (arg13 : Memref sig .tc .vmem S16x2048 .f32) (harg13 : arg13.IsWhole) (arg14 : Memref sig .tc .vmem S8x2048 .f32) (harg14 : arg14.IsWhole) (arg15 : Memref sig .tc .vmem S128x2048 .f32) (harg15 : arg15.IsWhole) (hc0 : cond0_0 i) (x0 : Vec F S1x128x1024 .bf16) (x1 : Vec F S4096x1024 .bf16) (x2 : Vec F S4x2048 .f32) (x3 : Vec F S1x2048 .f32) (x4 : Vec F S96x2048 .bf16) (x5 : Vec F S2048x64 .bf16) (x6 : Vec F S1x2048 .f32) (x7 : Vec F S1024x2048 .bf16) (x8 : Vec F S16x2048 .f32) (x9 : Vec F S1x2048 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = stateOf (conv x0 x1 x2 x3 k0_pay3) x4 x5 x6 x8 k0_pay2 128 le_rfl := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9),
    show (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).2.1 =
      [⟨Rect.unit ![0, 0] S16x2048.size inb_S16x2048_S16x2048_0_0,
        shapeCast S16x2048 (stateOf (conv (arg2.view.readAt (Elt F) (Rect.unit ![0, 0, 0] S1x128x1024.size inb_S1x128x1024_S1x128x1024_0_0_0).toLoadRect (harg2.unread x0)) (arg3.view.readAt (Elt F) (Rect.unit ![0, 0] S4096x1024.size inb_S4096x1024_S4096x1024_0_0).toLoadRect (harg3.unread x1)) (arg4.view.readAt (Elt F) (Rect.unit ![0, 0] S4x2048.size inb_S4x2048_S4x2048_0_0).toLoadRect (harg4.unread x2)) (arg5.view.readAt (Elt F) (Rect.unit ![0, 0] S1x2048.size inb_S1x2048_S1x2048_0_0).toLoadRect (harg5.unread x3)) (View.readCov (Val := Elt F) arg14.view [⟨Rect.unit ![0, 0] S8x2048.size inb_S8x2048_S8x2048_0_0, k0_pay3⟩] (Rect.unit ![0, 0] S8x2048.size inb_S8x2048_S8x2048_0_0).toLoadRect)) (arg6.view.readAt (Elt F) (Rect.unit ![0, 0] S96x2048.size inb_S96x2048_S96x2048_0_0).toLoadRect (harg6.unread x4)) (arg7.view.readAt (Elt F) (Rect.unit ![0, 0] S2048x64.size inb_S2048x64_S2048x64_0_0).toLoadRect (harg7.unread x5)) (arg8.view.readAt (Elt F) (Rect.unit ![0, 0] S1x2048.size inb_S1x2048_S1x2048_0_0).toLoadRect (harg8.unread x6)) (arg10.view.readAt (Elt F) (Rect.unit ![0, 0] S16x2048.size inb_S16x2048_S16x2048_0_0).toLoadRect (harg10.unread x8)) (View.readCov (Val := Elt F) arg13.view [⟨Rect.unit ![0, 0] S16x2048.size inb_S16x2048_S16x2048_0_0, k0_pay2⟩] (Rect.unit ![0, 0] S16x2048.size inb_S16x2048_S16x2048_0_0).toLoadRect) 128 le_rfl) shapeCasts_S16x2048_S16x2048⟩, ⟨Rect.unit ![0, 0] S16x2048.size inb_S16x2048_S16x2048_0_0, k0_pay2⟩] from by sl_kernel_rfl,
    View.canon_cons_unit_zero (S := S16x2048) zero2, shapeCast_self]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S1x128x1024) zero3, View.ld_unit_zero (S := S4096x1024) zero2, View.ld_unit_zero (S := S4x2048) zero2,
    View.ld_unit_zero (S := S1x2048) zero2, View.ld_unit_zero (S := S96x2048) zero2, View.ld_unit_zero (S := S2048x64) zero2,
    View.ld_unit_zero (S := S1024x2048) zero2, View.ld_unit_zero (S := S16x2048) zero2, View.ld_unit_zero (S := S8x2048) zero2,
    View.readCov_unit_zero (S := S16x2048) _ zero2, View.readCov_unit_zero (S := S8x2048) _ zero2]

/-- The first point of a sequence, where state and rows start at zero: the carried rows become the last eight rows of the block. -/
theorem tail_A (c : Dev nD) (i : grid0.Coords) (arg2 : Memref sig .tc .vmem S1x128x1024 .bf16) (harg2 : arg2.IsWhole) (arg3 : Memref sig .tc .vmem S4096x1024 .bf16) (harg3 : arg3.IsWhole) (arg4 : Memref sig .tc .vmem S4x2048 .f32) (harg4 : arg4.IsWhole) (arg5 : Memref sig .tc .vmem S1x2048 .f32) (harg5 : arg5.IsWhole) (arg6 : Memref sig .tc .vmem S96x2048 .bf16) (harg6 : arg6.IsWhole) (arg7 : Memref sig .tc .vmem S2048x64 .bf16) (harg7 : arg7.IsWhole) (arg8 : Memref sig .tc .vmem S1x2048 .f32) (harg8 : arg8.IsWhole) (arg9 : Memref sig .tc .vmem S1024x2048 .bf16) (harg9 : arg9.IsWhole) (arg10 : Memref sig .tc .vmem S16x2048 .f32) (harg10 : arg10.IsWhole) (arg11 : Memref sig .tc .vmem S1x2048 .f32) (harg11 : arg11.IsWhole) (arg12 : Memref sig .tc .vmem S1x128x1024 .f32) (harg12 : arg12.IsWhole) (arg13 : Memref sig .tc .vmem S16x2048 .f32) (harg13 : arg13.IsWhole) (arg14 : Memref sig .tc .vmem S8x2048 .f32) (harg14 : arg14.IsWhole) (arg15 : Memref sig .tc .vmem S128x2048 .f32) (harg15 : arg15.IsWhole) (hc0 : cond0_0 i) (x0 : Vec F S1x128x1024 .bf16) (x1 : Vec F S4096x1024 .bf16) (x2 : Vec F S4x2048 .f32) (x3 : Vec F S1x2048 .f32) (x4 : Vec F S96x2048 .bf16) (x5 : Vec F S2048x64 .bf16) (x6 : Vec F S1x2048 .f32) (x7 : Vec F S1024x2048 .bf16) (x8 : Vec F S16x2048 .f32) (x9 : Vec F S1x2048 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = tailOf x0 x1 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9),
    show (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).2.2.1 =
      [⟨Rect.unit ![0, 0] S8x2048.size inb_S8x2048_S8x2048_0_0, k0_pay9 (k0_pay8 (arg2.view.readAt (Elt F) (Rect.unit ![0, 0, 0] S1x128x1024.size inb_S1x128x1024_S1x128x1024_0_0_0).toLoadRect (harg2.unread x0)) (arg3.view.readAt (Elt F) (Rect.unit ![0, 0] S4096x1024.size inb_S4096x1024_S4096x1024_0_0).toLoadRect (harg3.unread x1)))⟩, ⟨Rect.unit ![0, 0] S8x2048.size inb_S8x2048_S8x2048_0_0, k0_pay3⟩] from by sl_kernel_rfl,
    View.canon_cons_unit_zero (S := S8x2048) zero2]
  simp only [View.readAt_eq_ld, harg2.read_unread, harg3.read_unread,
    View.ld_unit_zero (S := S1x128x1024) zero3, View.ld_unit_zero (S := S4096x1024) zero2]
  rfl

end Cert.KernelIdeal.Block
end
-- ==== Proof.Rows.lean ====
module

public import proofs.«01_k».proof.Proof.Scan
public import Idealize.ShloMosaic.Lib.Pointwise

@[expose] public section

set_option maxRecDepth 16384

noncomputable section

namespace Cert.KernelIdeal.Block

open Cert.KernelIdeal Cert.KernelIdeal.Gen
open Idealize.ShloMosaic Idealize.ShloMosaic.TcCoe

variable {F : FTy → Type} [FloatOps F]

/-! ## Reading the array of results after its stores -/

/-- Element `d` of row `t` is element `d` of the row's rectangle. -/
theorem row_emb {t : ℕ} (ht : t < 128) (d : Fin 2048) :
    (Rect.unit (s := S128x2048) ![t, 0] S1x2048.size (row_inb ht)).emb (ix2 (0 : Fin 1) d : S1x2048.Idx) = ix2 ⟨t, ht⟩ d :=
  funext fun k => Fin.ext (by
    rw [Rect.emb_apply]
    match k with
    | ⟨0, _⟩ => show t + 1 * 0 = t; omega
    | ⟨1, _⟩ => show 0 + 1 * d.val = d.val; omega)

/-- Where a row is the last one stored, the array holds it. -/
theorem canon_row_self {t : ℕ} (ht : t < 128) (w : FVec F S1x2048 .f32) (L : List (View.Piece (Elt F) S128x2048 .f32))
    (d : Fin 2048) :
    View.canon ((⟨Rect.unit ![t, 0] S1x2048.size (row_inb ht), w⟩ : View.Piece (Elt F) S128x2048 .f32) :: L) (ix2 ⟨t, ht⟩ d)
      = w (ix2 0 d) := by
  have h := View.canon_cons_emb (Val := Elt F) (e := .f32) (Rect.unit (s := S128x2048) ![t, 0] S1x2048.size (row_inb ht)) w L (ix2 (0 : Fin 1) d : S1x2048.Idx)
  rw [row_emb ht d] at h
  exact h

/-- Where another row is the last one stored, the array holds what it held before that store. -/
theorem canon_row_ne {t n : ℕ} (ht : t < 128) (hn : n < 128) (e : t ≠ n) (w : FVec F S1x2048 .f32)
    (L : List (View.Piece (Elt F) S128x2048 .f32)) (d : Fin 2048) :
    View.canon ((⟨Rect.unit ![n, 0] S1x2048.size (row_inb hn), w⟩ : View.Piece (Elt F) S128x2048 .f32) :: L) (ix2 ⟨t, ht⟩ d)
      = View.canon L (ix2 ⟨t, ht⟩ d) := by
  refine View.canon_cons_of_not_mem _ _ fun hm => ?_
  have h0 := (Rect.mem_set_unit (inb := row_inb hn)).mp hm 0
  have h1 : n ≤ t ∧ t < n + 1 := h0
  omega

/-- After the stores of the first `n` rows, the array of results holds row `t` for every `t < n`. -/
theorem rows_apply (δ : FVec F S128x2048 .f32) (a : FVec F S16x2048 .f32) (dx : FVec F S128x2048 .f32)
    (bc : FVec F S32x128 .f32) (h : FVec F S16x2048 .f32) (t : ℕ) (ht : t < 128) (d : Fin 2048) :
    ∀ (n : ℕ) (hn : n ≤ 128), t < n →
      View.canon (resultRows δ a dx bc h n hn) (ix2 ⟨t, ht⟩ d) = resultRow δ a dx bc h t ht (ix2 0 d)
  | 0, _, h0 => absurd h0 (Nat.not_lt_zero t)
  | n + 1, hn, hlt => by
    rw [resultRows]
    by_cases e : t = n
    · subst e
      exact canon_row_self ht _ _ d
    · rw [canon_row_ne ht hn e]
      exact rows_apply δ a dx bc h t ht d n (Nat.le_of_succ_le hn) (by omega)

end Cert.KernelIdeal.Block
end
-- ==== Proof.Spec.lean ====
module

public import Idealize.ShloMosaic.Lib.Pointwise

@[expose] public section

noncomputable section

namespace Cert.Mamba

open Idealize.ShloMosaic

/-! ## The mathematics both programs compute

One sequence of a Mamba block over the extended reals, position by position. A position is a natural number; the sequence's
2048 positions are the first ones. -/

/-- The inputs for one sequence: its activations and the block's weights. -/
structure Inputs where
  /-- The activations: position, feature. -/
  X : ℕ → Fin 1024 → EReal
  /-- The input projection: its first 2048 rows give the convolution's input, the others the gate. -/
  Wi : Fin 4096 → Fin 1024 → EReal
  /-- The convolution's weights: channel, tap. -/
  Cw : Fin 2048 → Fin 4 → EReal
  /-- The convolution's bias. -/
  Cb : Fin 2048 → EReal
  /-- The projection to the step (64 rows), to `B` (16 rows) and to `C` (16 rows). -/
  Xp : Fin 96 → Fin 2048 → EReal
  /-- The step's weights. -/
  Dtw : Fin 2048 → Fin 64 → EReal
  /-- The step's bias. -/
  Dtb : Fin 2048 → EReal
  /-- The logarithm of the decay. -/
  Al : Fin 2048 → Fin 16 → EReal
  /-- The skip weights. -/
  Dd : Fin 2048 → EReal
  /-- The output projection. -/
  Wo : Fin 1024 → Fin 2048 → EReal

/-- The inputs of sequence `b` of a batch of two, from the ten arrays. -/
def inputs (a0 : FVec Ideal ⟨3, ![2, 2048, 1024]⟩ .f32) (a1 : FVec Ideal ⟨2, ![4096, 1024]⟩ .f32)
    (a2 : FVec Ideal ⟨2, ![2048, 4]⟩ .f32) (a3 : FVec Ideal ⟨1, ![2048]⟩ .f32) (a4 : FVec Ideal ⟨2, ![96, 2048]⟩ .f32)
    (a5 : FVec Ideal ⟨2, ![2048, 64]⟩ .f32) (a6 : FVec Ideal ⟨1, ![2048]⟩ .f32) (a7 : FVec Ideal ⟨2, ![1024, 2048]⟩ .f32)
    (a8 : FVec Ideal ⟨2, ![2048, 16]⟩ .f32) (a9 : FVec Ideal ⟨1, ![2048]⟩ .f32) (b : Fin 2) : Inputs where
  X l k := if h : l < 2048 then a0 (ix3 b ⟨l, h⟩ k) else 0
  Wi e k := a1 (ix2 e k)
  Cw d k := a2 (ix2 d k)
  Cb d := a3 (ix1 d)
  Xp e d := a4 (ix2 e d)
  Dtw d r := a5 (ix2 d r)
  Dtb d := a6 (ix1 d)
  Al d n := a8 (ix2 d n)
  Dd d := a9 (ix1 d)
  Wo e d := a7 (ix2 e d)

/-- `x · σ(x)`. -/
def silu (x : EReal) : EReal := x * Ideal.logistic x

/-- `log (1 + exp u)`, as both programs compute it. -/
def softplus (u : EReal) : EReal := max u 0 + Ideal.log1p (Ideal.exp (-max u (-u)))

variable (I : Inputs)

/-- The input projection at a position. -/
def proj (l : ℕ) (e : Fin 4096) : EReal := ∑ k : Fin 1024, I.X l k * I.Wi e k

/-- The convolution's input. -/
def pre (l : ℕ) (d : Fin 2048) : EReal := proj I l ⟨d.val, by omega⟩

/-- The gate before its activation. -/
def gate (l : ℕ) (d : Fin 2048) : EReal := proj I l ⟨2048 + d.val, by omega⟩

/-- The convolution's input, three zero rows in front of it. -/
def padded (l : ℕ) (d : Fin 2048) : EReal := if l < 3 then 0 else pre I (l - 3) d

/-- The causal convolution with its bias. -/
def conv (l : ℕ) (d : Fin 2048) : EReal :=
  padded I l d * I.Cw d 0 + padded I (l + 1) d * I.Cw d 1 + padded I (l + 2) d * I.Cw d 2 + padded I (l + 3) d * I.Cw d 3
    + I.Cb d

/-- The activated convolution. -/
def act (l : ℕ) (d : Fin 2048) : EReal := silu (conv I l d)

/-- The projection of the activated convolution. -/
def low (l : ℕ) (e : Fin 96) : EReal := ∑ d : Fin 2048, act I l d * I.Xp e d

/-- The step of the recurrence. -/
def step (l : ℕ) (d : Fin 2048) : EReal :=
  softplus ((∑ r : Fin 64, low I l ⟨r.val, by omega⟩ * I.Dtw d r) + I.Dtb d)

/-- The state before position `l`: zero before the first; each position scales it and adds the position's input. -/
def state : ℕ → Fin 16 → Fin 2048 → EReal
  | 0, _, _ => 0
  | l + 1, n, d => Ideal.exp (-Ideal.exp (I.Al d n) * step I l d) * state l n d
      + step I l d * act I l d * low I l ⟨64 + n.val, by omega⟩

/-- The recurrence's result at a position: the state after it weighted by `C`. -/
def scan (l : ℕ) (d : Fin 2048) : EReal := ∑ n : Fin 16, state I (l + 1) n d * low I l ⟨80 + n.val, by omega⟩

/-- The block's result at a position. -/
def out (l : ℕ) (e : Fin 1024) : EReal :=
  ∑ d : Fin 2048, (scan I l d + act I l d * I.Dd d) * silu (gate I l d) * I.Wo e d

end Cert.Mamba
end
-- ==== Proof.BlockValue.lean ====
module

public import proofs.«01_k».proof.Proof.Block
public import proofs.«01_k».proof.Proof.Rows
public import proofs.«01_k».proof.Proof.Spec

@[expose] public section

set_option maxRecDepth 16384

noncomputable section

namespace Cert.KernelIdeal.Block

open Cert.KernelIdeal Cert.KernelIdeal.Gen
open Idealize.ShloMosaic Idealize.ShloMosaic.TcCoe Idealize.ShloMosaic.Tactic

/-! ## One block, element by element -/

section Elements

variable (x0 : Vec Ideal S1x128x1024 .bf16) (x1 : Vec Ideal S4096x1024 .bf16) (v : FVec Ideal S128x2048 .f32)
  (x4 : Vec Ideal S96x2048 .bf16) (x5 : Vec Ideal S2048x64 .bf16) (x6 : Vec Ideal S1x2048 .f32)

/-- The input projection of row `r`. -/
theorem proj_apply (r : Fin 128) (e : Fin 4096) :
    k0_pay4 x0 x1 (ix2 r e) = ∑ k : Fin 1024, x0 (ix3 0 r k) * x1 (ix2 e k) := by
  pointwise [k0_pay4]

/-- The convolution's input is the first half of the projection. -/
theorem pre_apply (r : Fin 128) (d : Fin 2048) :
    k0_pay5 x0 x1 (ix2 r d) = ∑ k : Fin 1024, x0 (ix3 0 r k) * x1 (ix2 ⟨d.val, by omega⟩ k) := by
  pointwise [k0_pay5, k0_pay4]

/-- The gate is the second half of the projection. -/
theorem gate_apply (r : Fin 128) (d : Fin 2048) :
    k0_pay6 x0 x1 (ix2 r d) = ∑ k : Fin 1024, x0 (ix3 0 r k) * x1 (ix2 ⟨2048 + d.val, by omega⟩ k) := by
  pointwise [k0_pay6, k0_pay4]

/-- The convolution of row `r`: four rows of the block preceded by the three rows left before it. -/
theorem conv_apply (x2 : Vec Ideal S4x2048 .f32) (x3 : Vec Ideal S1x2048 .f32) (tl : Vec Ideal S8x2048 .f32) (p : ℕ → EReal)
    (r : Fin 128) (d : Fin 2048) (htl : ∀ q : Fin 3, tl (ix2 ⟨5 + q.val, by omega⟩ d) = p q.val)
    (hpre : ∀ s : Fin 128, k0_pay5 x0 x1 (ix2 s d) = p (3 + s.val)) :
    conv x0 x1 x2 x3 tl (ix2 r d) = p r.val * x2 (ix2 0 d) + p (r.val + 1) * x2 (ix2 1 d) + p (r.val + 2) * x2 (ix2 2 d)
      + p (r.val + 3) * x2 (ix2 3 d) + x3 (ix2 0 d) := by
  have cell : ∀ (m : ℕ) (hm : m < 131) (h1 : ∀ h : m < 3, 5 + m < 8) (h2 : ∀ h : ¬m < 3, m - 3 < 128),
      (if h : m < 3 then tl (ix2 ⟨5 + m, h1 h⟩ d) else k0_pay5 x0 x1 (ix2 ⟨m - 3, h2 h⟩ d)) = p m := by
    intro m hm h1 h2
    split
    · next h => exact htl ⟨m, h⟩
    · next h => rw [hpre]; congr 1; simp only []; omega
  pointwise [conv, k0_pay7]
  rw [cell r.val (by omega), cell (1 + r.val) (by omega), cell (2 + r.val) (by omega), hpre r]
  simp only [Nat.add_comm 1 r.val, Nat.add_comm 2 r.val, Nat.add_comm 3 r.val]

/-- The activation of the convolution. -/
theorem act_apply (r : Fin 128) (d : Fin 2048) : k0_pay10 v (ix2 r d) = Mamba.silu (v (ix2 r d)) := by
  pointwise [k0_pay10, Mamba.silu]

/-- The projection of row `r` of the activated convolution. -/
theorem low_apply (r : Fin 128) (e : Fin 96) :
    k0_pay11 v x4 (ix2 r e) = ∑ d : Fin 2048, Mamba.silu (v (ix2 r d)) * x4 (ix2 e d) := by
  pointwise [k0_pay11]
  simp only [act_apply]

/-- The step of row `r`. -/
theorem step_apply (r : Fin 128) (d : Fin 2048) :
    k0_pay12 v x4 x5 x6 (ix2 r d)
      = Mamba.softplus ((∑ k : Fin 64, k0_pay11 v x4 (ix2 r ⟨k.val, by omega⟩) * x5 (ix2 d k)) + x6 (ix2 0 d)) := by
  pointwise [k0_pay12]
  rw [if_neg (fun h => h rfl), zero_sub]
  rfl

/-- The transposed `B` and `C` columns. -/
theorem bc_apply (r : Fin 128) (e : Fin 32) :
    k0_pay15 v x4 (ix2 e r) = k0_pay11 v x4 (ix2 r ⟨64 + e.val, by omega⟩) := by
  pointwise [k0_pay15]

/-- The step times the activated convolution. -/
theorem dx_apply (r : Fin 128) (d : Fin 2048) :
    k0_pay14 v x4 x5 x6 (ix2 r d) = k0_pay12 v x4 x5 x6 (ix2 r d) * Mamba.silu (v (ix2 r d)) := by
  pointwise [k0_pay14]
  rw [act_apply]

/-- The decay. -/
theorem decay_apply (x8 : Vec Ideal S16x2048 .f32) (n : Fin 16) (d : Fin 2048) :
    k0_pay13 x8 (ix2 n d) = -Ideal.exp (x8 (ix2 n d)) := by
  pointwise [k0_pay13]
  rw [zero_sub]

/-- The last eight rows of the convolution's input. -/
theorem tail_apply (r : Fin 8) (d : Fin 2048) :
    tailOf x0 x1 (ix2 r d) = k0_pay5 x0 x1 (ix2 ⟨120 + r.val, by omega⟩ d) := by
  pointwise [tailOf, k0_pay9, k0_pay8]

/-- One update of the state. -/
theorem state_succ (δ : FVec Ideal S128x2048 .f32) (a : FVec Ideal S16x2048 .f32) (dx : FVec Ideal S128x2048 .f32)
    (bc : FVec Ideal S32x128 .f32) (h : FVec Ideal S16x2048 .f32) (n : ℕ) (hn : n < 128) (s : Fin 16) (d : Fin 2048) :
    state δ a dx bc h (n + 1) hn (ix2 s d)
      = Ideal.exp (a (ix2 s d) * δ (ix2 ⟨n, hn⟩ d)) * state δ a dx bc h n (Nat.le_of_succ_le hn) (ix2 s d)
        + dx (ix2 ⟨n, hn⟩ d) * bc (ix2 ⟨s.val, by omega⟩ ⟨n, hn⟩) := by
  pointwise [state]

/-- One row of results. -/
theorem result_apply (δ : FVec Ideal S128x2048 .f32) (a : FVec Ideal S16x2048 .f32) (dx : FVec Ideal S128x2048 .f32)
    (bc : FVec Ideal S32x128 .f32) (h : FVec Ideal S16x2048 .f32) (n : ℕ) (hn : n < 128) (d : Fin 2048) :
    resultRow δ a dx bc h n hn (ix2 0 d)
      = ∑ s : Fin 16, state δ a dx bc h (n + 1) hn (ix2 s d) * bc (ix2 ⟨16 + s.val, by omega⟩ ⟨n, hn⟩) := by
  pointwise [resultRow]

/-- The block of the output from its convolution and the results of the recurrence. -/
theorem final_apply (z y : FVec Ideal S128x2048 .f32) (x9 : Vec Ideal S1x2048 .f32) (x7 : Vec Ideal S1024x2048 .bf16)
    (r : Fin 128) (e : Fin 1024) :
    k0_pay1 z (k0_pay10 v) y x9 x7 (ix3 0 r e)
      = ∑ d : Fin 2048, (y (ix2 r d) + Mamba.silu (v (ix2 r d)) * x9 (ix2 0 d)) * Mamba.silu (z (ix2 r d)) * x7 (ix2 e d) := by
  pointwise [k0_pay1]
  simp only [act_apply]
  rfl

end Elements

/-! ## One block against the mathematics -/

/-- The block's inputs are those of the sequence `I`, its rows the positions from `l`. -/
structure Holds (I : Mamba.Inputs) (l : ℕ) (x0 : Vec Ideal S1x128x1024 .bf16) (x1 : Vec Ideal S4096x1024 .bf16)
    (x2 : Vec Ideal S4x2048 .f32) (x3 : Vec Ideal S1x2048 .f32) (x4 : Vec Ideal S96x2048 .bf16) (x5 : Vec Ideal S2048x64 .bf16)
    (x6 : Vec Ideal S1x2048 .f32) (x7 : Vec Ideal S1024x2048 .bf16) (x8 : Vec Ideal S16x2048 .f32)
    (x9 : Vec Ideal S1x2048 .f32) : Prop where
  X : ∀ (r : Fin 128) (k : Fin 1024), x0 (ix3 0 r k) = I.X (l + r.val) k
  Wi : ∀ (e : Fin 4096) (k : Fin 1024), x1 (ix2 e k) = I.Wi e k
  Cw : ∀ (k : Fin 4) (d : Fin 2048), x2 (ix2 k d) = I.Cw d k
  Cb : ∀ d : Fin 2048, x3 (ix2 0 d) = I.Cb d
  Xp : ∀ (e : Fin 96) (d : Fin 2048), x4 (ix2 e d) = I.Xp e d
  Dtw : ∀ (d : Fin 2048) (k : Fin 64), x5 (ix2 d k) = I.Dtw d k
  Dtb : ∀ d : Fin 2048, x6 (ix2 0 d) = I.Dtb d
  Wo : ∀ (e : Fin 1024) (d : Fin 2048), x7 (ix2 e d) = I.Wo e d
  Al : ∀ (n : Fin 16) (d : Fin 2048), x8 (ix2 n d) = I.Al d n
  Dd : ∀ d : Fin 2048, x9 (ix2 0 d) = I.Dd d

/-- The three rows the convolution needs from before position `l`, in the last three of eight rows. -/
def TailAt (I : Mamba.Inputs) (l : ℕ) (tl : Vec Ideal S8x2048 .f32) : Prop :=
  ∀ (q : Fin 3) (d : Fin 2048), tl (ix2 ⟨5 + q.val, by omega⟩ d) = Mamba.padded I (l + q.val) d

/-- The state before position `l`. -/
def StateAt (I : Mamba.Inputs) (l : ℕ) (h : Vec Ideal S16x2048 .f32) : Prop :=
  ∀ (n : Fin 16) (d : Fin 2048), h (ix2 n d) = Mamba.state I l n d

/-- The zero rows are what the convolution needs before the first position. -/
theorem tailAt_zero (I : Mamba.Inputs) : TailAt I 0 (k0_pay3 (F := Ideal)) := fun q d => by
  have hq : 0 + q.val < 3 := by omega
  unfold Mamba.padded
  rw [if_pos hq]
  pointwise [k0_pay3]

/-- The zero state is the state before the first position. -/
theorem stateAt_zero (I : Mamba.Inputs) : StateAt I 0 (k0_pay2 (F := Ideal)) := fun n d => by
  unfold Mamba.state
  pointwise [k0_pay2]

section Against

variable {I : Mamba.Inputs} {l : ℕ} {x0 : Vec Ideal S1x128x1024 .bf16} {x1 : Vec Ideal S4096x1024 .bf16}
  {x2 : Vec Ideal S4x2048 .f32} {x3 : Vec Ideal S1x2048 .f32} {x4 : Vec Ideal S96x2048 .bf16} {x5 : Vec Ideal S2048x64 .bf16}
  {x6 : Vec Ideal S1x2048 .f32} {x7 : Vec Ideal S1024x2048 .bf16} {x8 : Vec Ideal S16x2048 .f32} {x9 : Vec Ideal S1x2048 .f32}
  (H : Holds I l x0 x1 x2 x3 x4 x5 x6 x7 x8 x9) {tl : Vec Ideal S8x2048 .f32} (ht : TailAt I l tl)
  {h : Vec Ideal S16x2048 .f32} (hs : StateAt I l h)
include H

/-- The convolution's input at row `r` is the one at position `l + r`. -/
theorem pre_eq (r : Fin 128) (d : Fin 2048) : k0_pay5 x0 x1 (ix2 r d) = Mamba.pre I (l + r.val) d := by
  rw [pre_apply]; unfold Mamba.pre Mamba.proj
  exact Finset.sum_congr rfl fun k _ => by rw [H.X, H.Wi]

/-- The gate at row `r` is the one at position `l + r`. -/
theorem gate_eq (r : Fin 128) (d : Fin 2048) : k0_pay6 x0 x1 (ix2 r d) = Mamba.gate I (l + r.val) d := by
  rw [gate_apply]; unfold Mamba.gate Mamba.proj
  exact Finset.sum_congr rfl fun k _ => by rw [H.X, H.Wi]

/-- The last eight rows of the block serve the next block. -/
theorem tail_eq : TailAt I (l + 128) (tailOf x0 x1) := fun q d => by
  rw [tail_apply, pre_eq H]
  unfold Mamba.padded
  rw [if_neg (by omega)]
  congr 1
  simp only []
  omega

include ht

/-- The convolution at row `r` is the one at position `l + r`. -/
theorem conv_eq (r : Fin 128) (d : Fin 2048) : conv x0 x1 x2 x3 tl (ix2 r d) = Mamba.conv I (l + r.val) d := by
  rw [conv_apply x0 x1 x2 x3 tl (fun m => Mamba.padded I (l + m) d) r d (fun q => ht q d) (fun s => by
    rw [pre_eq H]; unfold Mamba.padded; rw [if_neg (by omega)]; congr 1; omega)]
  unfold Mamba.conv
  simp only [H.Cw, H.Cb, Nat.add_assoc]

/-- The projection of the activated convolution at row `r`. -/
theorem low_eq (r : Fin 128) (e : Fin 96) :
    k0_pay11 (conv x0 x1 x2 x3 tl) x4 (ix2 r e) = Mamba.low I (l + r.val) e := by
  rw [low_apply]; unfold Mamba.low Mamba.act
  exact Finset.sum_congr rfl fun d _ => by rw [conv_eq H ht, H.Xp]

/-- The step at row `r`. -/
theorem step_eq (r : Fin 128) (d : Fin 2048) :
    k0_pay12 (conv x0 x1 x2 x3 tl) x4 x5 x6 (ix2 r d) = Mamba.step I (l + r.val) d := by
  rw [step_apply]; unfold Mamba.step
  rw [H.Dtb]
  congr 2
  exact Finset.sum_congr rfl fun k _ => by rw [low_eq H ht, H.Dtw]

include hs

/-- The state after the first `n` rows is the one before position `l + n`. -/
theorem state_eq (n : ℕ) (hn : n ≤ 128) : StateAt I (l + n) (stateOf (conv x0 x1 x2 x3 tl) x4 x5 x6 x8 h n hn) := by
  induction n with
  | zero => exact hs
  | succ n ih =>
    intro s d
    unfold stateOf
    rw [state_succ, decay_apply, step_eq H ht, dx_apply, step_eq H ht, conv_eq H ht, bc_apply, low_eq H ht, H.Al]
    exact congrArg (fun e => Ideal.exp (-Ideal.exp (I.Al d s) * Mamba.step I (l + n) d) * e
      + Mamba.step I (l + n) d * Mamba.silu (Mamba.conv I (l + n) d) * Mamba.low I (l + n) ⟨64 + s.val, by omega⟩)
      (ih (Nat.le_of_succ_le hn) s d)

/-- Row `r` of the results of the recurrence. -/
theorem rows_eq (r : Fin 128) (d : Fin 2048) :
    View.canon (rowsOf (conv x0 x1 x2 x3 tl) x4 x5 x6 x8 h) (ix2 r d) = Mamba.scan I (l + r.val) d := by
  unfold rowsOf
  refine (rows_apply _ _ _ _ _ r.val r.isLt d 128 le_rfl r.isLt).trans ?_
  rw [result_apply]
  unfold Mamba.scan
  refine Finset.sum_congr rfl fun s _ => ?_
  have h1 := state_eq H ht hs (r.val + 1) r.isLt s d
  unfold stateOf at h1
  rw [h1, bc_apply, low_eq H ht]
  congr 2
  exact Fin.ext (by simp only []; omega)

/-- The block of the output holds the block's positions of the result. -/
theorem out_eq (r : Fin 128) (e : Fin 1024) :
    outOf (conv x0 x1 x2 x3 tl) x0 x1 x4 x5 x6 x7 x8 x9 h (ix3 0 r e) = Mamba.out I (l + r.val) e := by
  unfold outOf
  rw [final_apply]
  unfold Mamba.out Mamba.act
  exact Finset.sum_congr rfl fun d _ => by
    rw [rows_eq H ht hs, conv_eq H ht, gate_eq H, H.Dd, H.Wo]

end Against

end Cert.KernelIdeal.Block
end
-- ==== Proof.Windows.lean ====
module

public import proofs.«01_k».proof.Proof.Gen.KernelIdeal.Value
public import proofs.«01_k».proof.Proof.BlockValue

@[expose] public section

set_option maxRecDepth 16384

noncomputable section

namespace Cert.KernelIdeal.Own

open Cert.KernelIdeal Cert.KernelIdeal.Gen Cert.KernelIdeal.Block
open Idealize.ShloMosaic Idealize.ShloMosaic.TcCoe Idealize.ShloMosaic.Tactic Idealize.SL.Sem

variable (m : (ℓ : Loc nD τ sig) → Buf (Elt Ideal) ℓ)

/-! ## What each grid point's windows hold -/

/-- The inputs of sequence `b`, read off the launch's ten arguments. -/
def seqInputs (c : Dev nD) (b : Fin 2) : Mamba.Inputs :=
  Mamba.inputs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) b

/-- What the host leaves in `main_v0`, the kernel's first operand: the activations, converted. -/
theorem V0 (c : Dev nD) : (V m c main_v0 : FVec Ideal S2x2048x1024 .bf16) =
    (truncf .bf16 (m ((c : Thread nD τ).loc main_arg0) : FVec Ideal S2x2048x1024 .f32) bitsLt_bf16_f32 : FVec Ideal S2x2048x1024 .bf16) := by
  unfold V; after_results

/-- The input projection, converted. -/
theorem V1 (c : Dev nD) : (V m c main_v1 : FVec Ideal S4096x1024 .bf16) =
    (truncf .bf16 (m ((c : Thread nD τ).loc main_arg1) : FVec Ideal S4096x1024 .f32) bitsLt_bf16_f32 : FVec Ideal S4096x1024 .bf16) := by
  unfold V; after_results

/-- The low-rank projection, converted. -/
theorem V2 (c : Dev nD) : (V m c main_v2 : FVec Ideal S96x2048 .bf16) =
    (truncf .bf16 (m ((c : Thread nD τ).loc main_arg4) : FVec Ideal S96x2048 .f32) bitsLt_bf16_f32 : FVec Ideal S96x2048 .bf16) := by
  unfold V; after_results

/-- The step-size projection, converted. -/
theorem V3 (c : Dev nD) : (V m c main_v3 : FVec Ideal S2048x64 .bf16) =
    (truncf .bf16 (m ((c : Thread nD τ).loc main_arg5) : FVec Ideal S2048x64 .f32) bitsLt_bf16_f32 : FVec Ideal S2048x64 .bf16) := by
  unfold V; after_results

/-- The output projection, converted. -/
theorem V4 (c : Dev nD) : (V m c main_v4 : FVec Ideal S1024x2048 .bf16) =
    (truncf .bf16 (m ((c : Thread nD τ).loc main_arg7) : FVec Ideal S1024x2048 .f32) bitsLt_bf16_f32 : FVec Ideal S1024x2048 .bf16) := by
  unfold V; after_results

/-- The convolution weights, transposed. -/
theorem V5 (c : Dev nD) : (V m c main_v5 : FVec Ideal S4x2048 .f32) =
    transpose S4x2048 [1, 0] (m ((c : Thread nD τ).loc main_arg2) : FVec Ideal S2048x4 .f32) transposes_S2048x4_S4x2048_1_0 := by
  unfold V; after_results

/-- The decay exponents, transposed. -/
theorem V8 (c : Dev nD) : (V m c main_v8 : FVec Ideal S16x2048 .f32) =
    transpose S16x2048 [1, 0] (m ((c : Thread nD τ).loc main_arg8) : FVec Ideal S2048x16 .f32) transposes_S2048x16_S16x2048_1_0 := by
  unfold V; after_results

/-- The convolution bias, as a row. -/
theorem V6 (c : Dev nD) : (V m c main_v6 : FVec Ideal S1x2048 .f32) =
    shapeCast S1x2048 (m ((c : Thread nD τ).loc main_arg3) : FVec Ideal S2048 .f32) shapeCasts_S2048_S1x2048 := by
  unfold V; after_results; rfl

/-- The step-size bias, as a row. -/
theorem V7 (c : Dev nD) : (V m c main_v7 : FVec Ideal S1x2048 .f32) =
    shapeCast S1x2048 (m ((c : Thread nD τ).loc main_arg6) : FVec Ideal S2048 .f32) shapeCasts_S2048_S1x2048 := by
  unfold V; after_results; rfl

/-- The skip weights, as a row. -/
theorem V9 (c : Dev nD) : (V m c main_v9 : FVec Ideal S1x2048 .f32) =
    shapeCast S1x2048 (m ((c : Thread nD τ).loc main_arg9) : FVec Ideal S2048 .f32) shapeCasts_S2048_S1x2048 := by
  unfold V; after_results; rfl

/-- A vector laid out as a row, read at a column. -/
theorem row_apply (a : FVec Ideal S2048 .f32) (d : Fin 2048) :
    shapeCast S1x2048 a shapeCasts_S2048_S1x2048 (ix2 0 d) = a (ix1 d) := by
  pointwise []

/-- Windows 1 to 9 hold their whole operand at every grid point: each is the operand's one block, at the origin. -/
theorem whole_blocks (c : Dev nD) (t : Fin cfg0.N) :
    iblk m c 1 t = V m c main_v1 ∧ iblk m c 2 t = V m c main_v5 ∧ iblk m c 3 t = V m c main_v6 ∧ iblk m c 4 t = V m c main_v2 ∧
    iblk m c 5 t = V m c main_v3 ∧ iblk m c 6 t = V m c main_v7 ∧ iblk m c 7 t = V m c main_v4 ∧ iblk m c 8 t = V m c main_v8 ∧
    iblk m c 9 t = V m c main_v9 := by
  refine ⟨?_, ?_, ?_, ?_, ?_, ?_, ?_, ?_, ?_⟩ <;>
    exact Memref.read_access_unit_zero (Elt Ideal) _ (funext fun a => by fin_cases a <;> rfl)
      (fun a => by fin_cases a <;> exact Nat.le_of_eq rfl) _

/-- Window 0's block index at grid point `t`: sequence `t / 16`, chunk `t % 16`. -/
theorem idx0 : ∀ t : Fin cfg0.N, win0_0.index t (0 : Fin 3) = t.val / 16 ∧ win0_0.index t (1 : Fin 3) = t.val % 16
    ∧ win0_0.index t (2 : Fin 3) = 0 ∧ t.val / 16 < 2 := by decide +kernel

/-- Window 0 at grid point `t` holds rows `128 (t % 16) …` of sequence `t / 16`. -/
theorem block0 (c : Dev nD) (t : Fin cfg0.N) (r : Fin 128) (k : Fin 1024) :
    (iblk m c 0 t : FVec Ideal S1x128x1024 .bf16) (ix3 0 r k)
      = (V m c main_v0 : FVec Ideal S2x2048x1024 .bf16) (ix3 ⟨t.val / 16, (idx0 t).2.2.2⟩ ⟨128 * (t.val % 16) + r.val, by omega⟩ k) := by
  obtain ⟨e0, e1, e2, e3⟩ := idx0 t
  show (V m c main_v0 : FVec Ideal S2x2048x1024 .bf16) (((cfg0.win 0).blk t).view.emb (ix3 0 r k)) = _
  refine congrArg (V m c main_v0 : FVec Ideal S2x2048x1024 .bf16) (funext fun a => Fin.ext ?_)
  match a with
  | ⟨0, _⟩ => show win0_0.index t (0 : Fin 3) * 1 + 1 * 0 = t.val / 16; omega
  | ⟨1, _⟩ => show win0_0.index t (1 : Fin 3) * 128 + 1 * r.val = 128 * (t.val % 16) + r.val; omega
  | ⟨2, _⟩ => show win0_0.index t (2 : Fin 3) * 1024 + 1 * k.val = k.val; omega

/-- The windows of grid point `t` hold the inputs of sequence `t / 16` from row `128 (t % 16)` on. -/
theorem holds (c : Dev nD) (t : Fin cfg0.N) :
    Holds (seqInputs m c ⟨t.val / 16, (idx0 t).2.2.2⟩) (128 * (t.val % 16)) (iblk m c 0 t) (iblk m c 1 t) (iblk m c 2 t)
      (iblk m c 3 t) (iblk m c 4 t) (iblk m c 5 t) (iblk m c 6 t) (iblk m c 7 t) (iblk m c 8 t) (iblk m c 9 t) := by
  obtain ⟨h1, h2, h3, h4, h5, h6, h7, h8, h9⟩ := whole_blocks m c t
  rw [h1, h2, h3, h4, h5, h6, h7, h8, h9]
  refine ⟨fun r k => ?_, fun e k => ?_, fun k d => ?_, fun d => ?_, fun e d => ?_, fun d k => ?_, fun d => ?_, fun e d => ?_,
    fun n d => ?_, fun d => ?_⟩
  · rw [block0, V0]
    have hl : 128 * (t.val % 16) + r.val < 2048 := by omega
    simp only [seqInputs, Mamba.inputs, dif_pos hl]; rfl
  · rw [V1]; rfl
  · rw [V5]; pointwise []; rfl
  · rw [V6]; exact row_apply _ d
  · rw [V2]; rfl
  · rw [V3]; rfl
  · rw [V7]; exact row_apply _ d
  · rw [V4]; rfl
  · rw [V8]; pointwise []; rfl
  · rw [V9]; exact row_apply _ d

end Cert.KernelIdeal.Own
end
-- ==== Proof.Grid.lean ====
module

public import proofs.«01_k».proof.Proof.Windows

@[expose] public section

set_option maxRecDepth 16384

noncomputable section

namespace Cert.KernelIdeal.Own

open Cert.KernelIdeal Cert.KernelIdeal.Gen Cert.KernelIdeal.Block
open Idealize.ShloMosaic Idealize.ShloMosaic.TcCoe Idealize.ShloMosaic.Tactic Idealize.SL.Sem

variable (m : (ℓ : Loc nD τ sig) → Buf (Elt Ideal) ℓ)

/-! ## The grid: every chunk in turn, and the array at the end -/

/-- The sequence that grid point `n` works on. -/
def seqOf (c : Dev nD) (n : ℕ) (hn : n < cfg0.N) : Mamba.Inputs := seqInputs m c ⟨n / 16, (idx0 ⟨n, hn⟩).2.2.2⟩

/-- What is left by grid point `n`: the scan state after its chunk's last row, the window of rows the next chunk's
    convolution looks back at, and the chunk's rows of the output. -/
structure PointHolds (c : Dev nD) (n : ℕ) (hn : n < cfg0.N) : Prop where
  state : StateAt (seqOf m c n hn) (128 * (n % 16) + 128) (outsAt0 m c n hn).2.1
  tail : TailAt (seqOf m c n hn) (128 * (n % 16) + 128) (outsAt0 m c n hn).2.2
  out : ∀ (r : Fin 128) (e : Fin 1024),
    (outsAt0 m c n hn).1 (ix3 0 r e) = Mamba.out (seqOf m c n hn) (128 * (n % 16) + r.val) e

/-- The first chunk of a sequence starts from zeros. -/
theorem point_first (c : Dev nD) (t : Fin cfg0.N) (h0 : t.val % 16 = 0) : PointHolds m c t.val t.isLt := by
  have H := holds m c t
  have e0 : 128 * (t.val % 16) = 0 := by omega
  have ht : TailAt (seqOf m c t.val t.isLt) (128 * (t.val % 16)) (k0_pay3 (F := Ideal)) := by rw [e0]; exact tailAt_zero _
  have hs : StateAt (seqOf m c t.val t.isLt) (128 * (t.val % 16)) (k0_pay2 (F := Ideal)) := by rw [e0]; exact stateAt_zero _
  refine ⟨?_, ?_, fun r e => ?_⟩ <;> rw [outsAt0_A m c t h0] <;> dsimp only
  · rw [state_A]; exact state_eq H ht hs 128 le_rfl
  · rw [tail_A]; exact tail_eq H
  · rw [out_A]; exact out_eq H ht hs r e

/-- A later chunk starts from what the chunk before left. -/
theorem point_later (c : Dev nD) (t : Fin cfg0.N) (h0 : ¬t.val % 16 = 0)
    (ih : PointHolds m c (t.val - 1) (Nat.lt_of_le_of_lt (Nat.sub_le _ _) t.isLt)) : PointHolds m c t.val t.isLt := by
  have H := holds m c t
  have eI : seqOf m c (t.val - 1) (Nat.lt_of_le_of_lt (Nat.sub_le _ _) t.isLt) = seqOf m c t.val t.isLt :=
    congrArg (seqInputs m c) (Fin.ext (by show (t.val - 1) / 16 = t.val / 16; omega))
  have el : 128 * ((t.val - 1) % 16) + 128 = 128 * (t.val % 16) := by omega
  have ht := ih.tail
  have hs := ih.state
  rw [eI, el] at ht hs
  refine ⟨?_, ?_, fun r e => ?_⟩ <;> rw [outsAt0_B m c t h0] <;> dsimp only
  · rw [state_B]; exact state_eq H ht hs 128 le_rfl
  · rw [tail_B]; exact tail_eq H
  · rw [out_B]; exact out_eq H ht hs r e

/-- Every grid point. -/
theorem point (c : Dev nD) : ∀ (n : ℕ) (hn : n < cfg0.N), PointHolds m c n hn
  | 0, hn => point_first m c ⟨0, hn⟩ rfl
  | n + 1, hn =>
    if h0 : (n + 1) % 16 = 0 then point_first m c ⟨n + 1, hn⟩ h0
    else point_later m c ⟨n + 1, hn⟩ h0 (point c n (Nat.lt_of_succ_lt hn))

/-- The result array: at sequence `b`, row `l` and column `e`, that sequence's block output. -/
theorem result (c : Dev nD) (b : Fin 2) (l : Fin 2048) (e : Fin 1024) :
    Value.G10 m c (ix3 b l e) = Mamba.out (seqInputs m c b) l.val e := by
  have hp : Value.pt10Of (ix3 b l e) = 16 * b.val + l.val / 128 := by
    show 16 * (b.val / 1 - 0) + 1 * (l.val / 128 - 0) + 1 * (e.val / 1024 - 0) = _
    omega
  have hl : Value.loc10Of (ix3 b l e) = ix3 0 ⟨l.val % 128, by omega⟩ e := by
    funext a
    apply Fin.ext
    match a with
    | ⟨0, _⟩ => show b.val % 1 = 0; omega
    | ⟨1, _⟩ => rfl
    | ⟨2, _⟩ => show e.val % 1024 = e.val; omega
  have hN : Value.pt10Of (ix3 b l e) < cfg0.N := by rw [hp]; show _ < 32; omega
  unfold Value.G10
  rw [dif_pos hN, hl]
  rw [← Value.outsAt0_sweep m c _ hN]
  have hb : (⟨Value.pt10Of (ix3 b l e) / 16, (idx0 ⟨_, hN⟩).2.2.2⟩ : Fin 2) = b := Fin.ext (by show Value.pt10Of (ix3 b l e) / 16 = b.val; rw [hp]; omega)
  have hr : 128 * (Value.pt10Of (ix3 b l e) % 16) + l.val % 128 = l.val := by rw [hp]; omega
  rw [(point m c _ hN).out]
  unfold seqOf
  rw [hb]
  exact congrArg (fun k => Mamba.out (seqInputs m c b) k e) hr

end Cert.KernelIdeal.Own
end
-- ==== Proof.RefRead.lean ====
module

public import proofs.«01_k».proof.Proof.Gen.ReferenceIdeal.Run
public import proofs.«01_k».proof.Proof.Spec

@[expose] public section

set_option maxRecDepth 16384

noncomputable section

namespace Cert.ReferenceIdeal.Own

open Cert.ReferenceIdeal Cert.ReferenceIdeal.Gen Cert.ReferenceIdeal.Value
open Idealize.ShloMosaic Idealize.ShloMosaic.TcCoe Idealize.ShloMosaic.Tactic Idealize.SL.Sem Idealize.ShloMosaic.StableHlo

variable {V : Valuation τ sig (Elt Ideal)} {I : Fin 2 → Mamba.Inputs}

/-! ## The reference's straight stretches, each from any contents that hold the values before it -/

/-- The ten argument buffers hold the inputs of the two sequences. -/
structure Args (V : Valuation τ sig (Elt Ideal)) (I : Fin 2 → Mamba.Inputs) : Prop where
  X : ∀ (b : Fin 2) (l : Fin 2048) (k : Fin 1024), V (Proc.devRef .tc main_arg0) (ix3 b l k) = (I b).X l.val k
  Wi : ∀ (b : Fin 2) (e : Fin 4096) (k : Fin 1024), V (Proc.devRef .tc main_arg1) (ix2 e k) = (I b).Wi e k
  Cw : ∀ (b : Fin 2) (d : Fin 2048) (k : Fin 4), V (Proc.devRef .tc main_arg2) (ix2 d k) = (I b).Cw d k
  Cb : ∀ (b : Fin 2) (d : Fin 2048), V (Proc.devRef .tc main_arg3) (ix1 d) = (I b).Cb d
  Xp : ∀ (b : Fin 2) (e : Fin 96) (d : Fin 2048), V (Proc.devRef .tc main_arg4) (ix2 e d) = (I b).Xp e d
  Dtw : ∀ (b : Fin 2) (d : Fin 2048) (r : Fin 64), V (Proc.devRef .tc main_arg5) (ix2 d r) = (I b).Dtw d r
  Dtb : ∀ (b : Fin 2) (d : Fin 2048), V (Proc.devRef .tc main_arg6) (ix1 d) = (I b).Dtb d
  Wo : ∀ (b : Fin 2) (e : Fin 1024) (d : Fin 2048), V (Proc.devRef .tc main_arg7) (ix2 e d) = (I b).Wo e d
  Al : ∀ (b : Fin 2) (d : Fin 2048) (n : Fin 16), V (Proc.devRef .tc main_arg8) (ix2 d n) = (I b).Al d n
  Dd : ∀ (b : Fin 2) (d : Fin 2048), V (Proc.devRef .tc main_arg9) (ix1 d) = (I b).Dd d

/-- `1 / (1 + exp (-x))`, spelled out, is the logistic function. -/
theorem silu_eq (x : EReal) : x * Ideal.div 1 (1 + Ideal.exp (-x)) = Mamba.silu x := rfl

/-- The first half of the input projection. -/
theorem read_v1 (H : Args V I) (b : Fin 2) (l d : Fin 2048) :
    after hostOps0 V (Proc.devRef .tc main_v1) (ix3 b l d) = Mamba.pre (I b) l.val d := by
  after_results
  pointwise []
  simp only [H.X, H.Wi b]
  rfl

/-- The second half: the gate. -/
theorem read_v2 (H : Args V I) (b : Fin 2) (l d : Fin 2048) :
    after hostOps0 V (Proc.devRef .tc main_v2) (ix3 b l d) = Mamba.gate (I b) l.val d := by
  after_results
  pointwise []
  simp only [H.X, H.Wi b]
  rfl

/-- The padding value, zero. -/
theorem read_c : after hostOps0 V (Proc.devRef .tc main_c) = (constantI S_ 32 0#32 : IVec S_ 32) := by
  after_results

/-- Three rows of zeros in front of the first half. -/
theorem read_v3 (hc : V (Proc.devRef .tc main_c) = (constantI S_ 32 0#32 : IVec S_ 32))
    (h1 : ∀ (b : Fin 2) (l d : Fin 2048), V (Proc.devRef .tc main_v1) (ix3 b l d) = Mamba.pre (I b) l.val d)
    (b : Fin 2) (l : Fin 2051) (d : Fin 2048) :
    after hostOps0_1 V (Proc.devRef .tc main_v3) (ix3 b l d) = Mamba.padded (I b) l.val d := by
  after_results
  simp only [TRef.ofBuf, TRef.toBuf, cast_eq]
  rw [hc]
  pointwise []
  unfold Mamba.padded
  by_cases h : l.val < 3
  · rw [dif_neg (by omega), if_pos h]
    show (((0#32 : BitVec 32).toInt : ℝ) : EReal) = 0
    norm_num
  · rw [dif_pos (by omega), if_neg h, h1]

/-- The convolution: four shifted products and the bias. -/
theorem read_v35 (H : Args V I)
    (h3 : ∀ (b : Fin 2) (l : Fin 2051) (d : Fin 2048), V (Proc.devRef .tc main_v3) (ix3 b l d) = Mamba.padded (I b) l.val d)
    (b : Fin 2) (l d : Fin 2048) :
    after hostOps0_2 V (Proc.devRef .tc main_v35) (ix3 b l d) = Mamba.conv (I b) l.val d := by
  after_reads_simp
  pointwise []
  simp only [h3, H.Cw b, H.Cb b, Nat.add_comm 1 l.val, Nat.add_comm 2 l.val, Nat.add_comm 3 l.val]
  rfl

/-- The activation. -/
theorem read_v36 (h : ∀ (b : Fin 2) (l d : Fin 2048), V (Proc.devRef .tc main_v35) (ix3 b l d) = Mamba.conv (I b) l.val d)
    (b : Fin 2) (l d : Fin 2048) :
    after hostOps0_3 V (Proc.devRef .tc main_v36) (ix3 b l d) = Mamba.act (I b) l.val d := by
  after_results
  simp only [TRef.ofBuf, TRef.toBuf, cast_eq]
  pointwise []
  rw [silu_eq, h]
  rfl

/-- The low-rank projection's columns 64 to 79. -/
theorem read_v39 (H : Args V I)
    (h : ∀ (b : Fin 2) (l d : Fin 2048), V (Proc.devRef .tc main_v36) (ix3 b l d) = Mamba.act (I b) l.val d)
    (b : Fin 2) (l : Fin 2048) (n : Fin 16) :
    after hostOps0_4 V (Proc.devRef .tc main_v39) (ix3 b l n) = Mamba.low (I b) l.val ⟨64 + n.val, by omega⟩ := by
  after_results
  pointwise []
  simp only [h, H.Xp b]
  rfl

/-- The low-rank projection's columns 80 to 95. -/
theorem read_v40 (H : Args V I)
    (h : ∀ (b : Fin 2) (l d : Fin 2048), V (Proc.devRef .tc main_v36) (ix3 b l d) = Mamba.act (I b) l.val d)
    (b : Fin 2) (l : Fin 2048) (n : Fin 16) :
    after hostOps0_4 V (Proc.devRef .tc main_v40) (ix3 b l n) = Mamba.low (I b) l.val ⟨80 + n.val, by omega⟩ := by
  after_results
  pointwise []
  simp only [h, H.Xp b]
  rfl

/-- The step size before the soft plus. -/
theorem read_v44 (H : Args V I)
    (h : ∀ (b : Fin 2) (l d : Fin 2048), V (Proc.devRef .tc main_v36) (ix3 b l d) = Mamba.act (I b) l.val d)
    (b : Fin 2) (l d : Fin 2048) :
    Mamba.softplus (after hostOps0_4 V (Proc.devRef .tc main_v44) (ix3 b l d)) = Mamba.step (I b) l.val d := by
  after_results
  pointwise []
  simp only [h, H.Xp b, H.Dtw b, H.Dtb b]
  rfl

/-- The soft plus; its branch for a value that differs from itself is never taken. -/
theorem read_v45 (b : Fin 2) (l d : Fin 2048) :
    after hostOps0_5 V (Proc.devRef .tc main_v45) (ix3 b l d) = Mamba.softplus (V (Proc.devRef .tc main_v44) (ix3 b l d)) := by
  after_results
  simp only [TRef.ofBuf, TRef.toBuf, cast_eq]
  pointwise []
  rw [if_neg (fun h => h rfl)]
  rfl

/-- The decay factors, position first. -/
theorem read_v67_0 (H : Args V I)
    (h : ∀ (b : Fin 2) (l d : Fin 2048), V (Proc.devRef .tc main_v45) (ix3 b l d) = Mamba.step (I b) l.val d)
    (l : Fin 2048) (b : Fin 2) (d : Fin 2048) (n : Fin 16) :
    after hostOps0_6 V (Proc.devRef .tc main_v67_0) (ix4 l b d n)
      = Ideal.exp (-Ideal.exp ((I b).Al d n) * Mamba.step (I b) l.val d) := by
  after_reads_simp
  simp only [id_eq]
  pointwise []
  rw [h, H.Al b, mul_comm]

/-- The inputs of the recurrence, position first. -/
theorem read_v67_1
    (h : ∀ (b : Fin 2) (l d : Fin 2048), V (Proc.devRef .tc main_v45) (ix3 b l d) = Mamba.step (I b) l.val d)
    (h36 : ∀ (b : Fin 2) (l d : Fin 2048), V (Proc.devRef .tc main_v36) (ix3 b l d) = Mamba.act (I b) l.val d)
    (h39 : ∀ (b : Fin 2) (l : Fin 2048) (n : Fin 16),
      V (Proc.devRef .tc main_v39) (ix3 b l n) = Mamba.low (I b) l.val ⟨64 + n.val, by omega⟩)
    (l : Fin 2048) (b : Fin 2) (d : Fin 2048) (n : Fin 16) :
    after hostOps0_6 V (Proc.devRef .tc main_v67_1) (ix4 l b d n)
      = Mamba.step (I b) l.val d * Mamba.act (I b) l.val d * Mamba.low (I b) l.val ⟨64 + n.val, by omega⟩ := by
  after_reads_simp
  simp only [id_eq]
  pointwise []
  rw [h, h36, h39, mul_right_comm]

/-- The weights of the state in the result, position first. -/
theorem read_v67_2
    (h40 : ∀ (b : Fin 2) (l : Fin 2048) (n : Fin 16),
      V (Proc.devRef .tc main_v40) (ix3 b l n) = Mamba.low (I b) l.val ⟨80 + n.val, by omega⟩)
    (l : Fin 2048) (b : Fin 2) (n : Fin 16) :
    after hostOps0_6 V (Proc.devRef .tc main_v67_2) (ix3 l b n) = Mamba.low (I b) l.val ⟨80 + n.val, by omega⟩ := by
  after_reads_simp
  simp only [id_eq]
  pointwise []
  rw [h40]

/-- The state starts at zero. -/
theorem read_v67_4 (b : Fin 2) (d : Fin 2048) (n : Fin 16) :
    after hostOps0_6 V (Proc.devRef .tc main_v67_4) (ix3 b d n) = (0 : EReal) := by
  after_reads_simp
  simp only [id_eq]
  pointwise []

/-- The result: the recurrence's result and the skip, gated, through the output projection. -/
theorem read_v75 (H : Args V I)
    (h36 : ∀ (b : Fin 2) (l d : Fin 2048), V (Proc.devRef .tc main_v36) (ix3 b l d) = Mamba.act (I b) l.val d)
    (h2 : ∀ (b : Fin 2) (l d : Fin 2048), V (Proc.devRef .tc main_v2) (ix3 b l d) = Mamba.gate (I b) l.val d)
    (h67 : ∀ (l : Fin 2048) (b : Fin 2) (d : Fin 2048), V (Proc.devRef .tc main_v67_5) (ix3 l b d) = Mamba.scan (I b) l.val d)
    (b : Fin 2) (l : Fin 2048) (e : Fin 1024) :
    afterL postI V (Proc.devRef .tc main_v75) (ix3 b l e) = Mamba.out (I b) l.val e := by
  simp only [afterL_cons, afterL_nil]
  after_results
  simp only [TRef.ofBuf, TRef.toBuf, cast_eq]
  pointwise []
  simp only [h36, h2, h67, H.Wo b, H.Dd b, silu_eq]
  rfl

end Cert.ReferenceIdeal.Own
end
-- ==== Proof.RefLoop.lean ====
module

public import Idealize.ShloMosaic.Lib.DynamicIndex
public import proofs.«01_k».proof.Proof.RefRead

@[expose] public section

set_option maxRecDepth 16384

noncomputable section

namespace Cert.ReferenceIdeal.Own

open Cert.ReferenceIdeal Cert.ReferenceIdeal.Gen Cert.ReferenceIdeal.Value
open Idealize.ShloMosaic Idealize.ShloMosaic.TcCoe Idealize.ShloMosaic.Tactic Idealize.SL.Sem Idealize.ShloMosaic.StableHlo

variable {V : Valuation τ sig (Elt Ideal)} {I : Fin 2 → Mamba.Inputs}

/-! ## The reference's loop -/

/-- A small number read back, as a signed word, is itself. -/
theorem toInt_ofNat {k : ℕ} (hk : k < 2048) : (BitVec.ofNat 32 k).toInt = (k : ℤ) := by
  rw [BitVec.toInt_ofNat']
  norm_num [Int.bmod]
  omega

/-- Trip `k`'s start along the axes of a four-axis array: `k`, then the origin. -/
theorem start4 {k : ℕ} (hk : k < 2048) (a : Fin 4) :
    ((![(fun _ => BitVec.ofNat 32 k : IVec S_ 32), constantI S_ 32 0#32, constantI S_ 32 0#32, constantI S_ 32 0#32] a)
      (Shape.Idx.first h_S_)).toInt = ((![k, 0, 0, 0] a : ℕ) : ℤ) := by
  match a with
  | ⟨0, _⟩ => exact toInt_ofNat hk
  | ⟨1, _⟩ => rfl
  | ⟨2, _⟩ => rfl
  | ⟨3, _⟩ => rfl

/-- Trip `k`'s start along the axes of a three-axis array: `k`, then the origin. -/
theorem start3 {k : ℕ} (hk : k < 2048) (a : Fin 3) :
    ((![(fun _ => BitVec.ofNat 32 k : IVec S_ 32), constantI S_ 32 0#32, constantI S_ 32 0#32] a)
      (Shape.Idx.first h_S_)).toInt = ((![k, 0, 0] a : ℕ) : ℤ) := by
  match a with
  | ⟨0, _⟩ => exact toInt_ofNat hk
  | ⟨1, _⟩ => rfl
  | ⟨2, _⟩ => rfl

/-- Slab `k` of a four-axis array lies inside it. -/
theorem slab4 {k : ℕ} (hk : k < 2048) : S2048x2x2048x16.Slices ![k, 0, 0, 0] S1x2x2048x16 :=
  ⟨rfl, fun a => by
    match a with
    | ⟨0, _⟩ => show k + 1 ≤ 2048; omega
    | ⟨1, _⟩ => show 0 + 2 ≤ 2; omega
    | ⟨2, _⟩ => show 0 + 2048 ≤ 2048; omega
    | ⟨3, _⟩ => show 0 + 16 ≤ 16; omega⟩

/-- Slab `k` of a three-axis array lies inside it. -/
theorem slab3 {k n : ℕ} (hk : k < 2048) : (⟨3, ![2048, 2, n]⟩ : Shape).Slices ![k, 0, 0] ⟨3, ![1, 2, n]⟩ :=
  ⟨rfl, fun a => by
    match a with
    | ⟨0, _⟩ => show k + 1 ≤ 2048; omega
    | ⟨1, _⟩ => show 0 + 2 ≤ 2; omega
    | ⟨2, _⟩ => show 0 + n ≤ n; omega⟩

/-- Reading slab `k` of a four-axis array. -/
theorem read_slab4 {k : ℕ} (hk : k < 2048) (x : FVec Ideal S2048x2x2048x16 .f32) (b : Fin 2) (d : Fin 2048) (n : Fin 16) :
    shapeCast S2x2048x16 (Host.dynamicSlice S1x2x2048x16 x
      (fun a => ((![(fun _ => BitVec.ofNat 32 k : IVec S_ 32), constantI S_ 32 0#32, constantI S_ 32 0#32, constantI S_ 32 0#32] a)
        (Shape.Idx.first h_S_)).toInt) sliceFits_S2048x2x2048x16_S1x2x2048x16) shapeCasts_S1x2x2048x16_S2x2048x16 (ix3 b d n)
      = x (ix4 ⟨k, hk⟩ b d n) := by
  rw [Host.dynamicSlice_eq_extractStridedSlice _ _ _ _ _ (slab4 hk) (start4 hk)]
  pointwise []

/-- Reading slab `k` of the three-axis array of weights. -/
theorem read_slab3 {k : ℕ} (hk : k < 2048) (x : FVec Ideal S2048x2x16 .f32) (b : Fin 2) (n : Fin 16) :
    shapeCast S2x16 (Host.dynamicSlice S1x2x16 x
      (fun a => ((![(fun _ => BitVec.ofNat 32 k : IVec S_ 32), constantI S_ 32 0#32, constantI S_ 32 0#32] a)
        (Shape.Idx.first h_S_)).toInt) sliceFits_S2048x2x16_S1x2x16) shapeCasts_S1x2x16_S2x16 (ix2 b n)
      = x (ix3 ⟨k, hk⟩ b n) := by
  rw [Host.dynamicSlice_eq_extractStridedSlice _ _ _ _ _ (slab3 hk) (start3 hk)]
  pointwise []

/-- Writing slab `k` of the array of results: that slab is what was written, the others are kept. -/
theorem write_slab {k : ℕ} (hk : k < 2048) (x : FVec Ideal S2048x2x2048 .f32) (u : FVec Ideal S2x2048 .f32)
    (l : Fin 2048) (b : Fin 2) (d : Fin 2048) :
    Host.dynamicUpdateSlice x (broadcastInDim S1x2x2048 ![1, 2] bcast_S2x2048_S1x2x2048_1_2 u)
      (fun a => ((![(fun _ => BitVec.ofNat 32 k : IVec S_ 32), constantI S_ 32 0#32, constantI S_ 32 0#32] a)
        (Shape.Idx.first h_S_)).toInt) updateFits_S2048x2x2048_S1x2x2048 (ix3 l b d)
      = if l.val = k then u (ix2 b d) else x (ix3 l b d) := by
  rw [Host.dynamicUpdateSlice_eq_updateSlice _ _ _ _ ![k, 0, 0]
    (fun a => by
      rw [start3 hk a]
      match a with
      | ⟨0, _⟩ => show (min (max (k : ℤ) 0) ((2048 - 1 : ℕ) : ℤ)).toNat = k; omega
      | ⟨1, _⟩ => rfl
      | ⟨2, _⟩ => rfl) (slab3 hk)]
  pointwise []
  by_cases h : l.val = k
  · rw [if_pos h, dif_pos (by omega)]
  · rw [if_neg h, dif_neg (by omega)]

/-- The state's weighted sum at one channel. -/
theorem weighted (p : FVec Ideal S2x2048x16 .f32) (q : FVec Ideal S2x16 .f32) (b : Fin 2) (d : Fin 2048) :
    Host.dotGeneral dot_S2x2048x16_S2x16_S2x2048_2_1_1_n_0_0 none p q (ix2 b d)
      = ∑ n : Fin 16, p (ix3 b d n) * q (ix2 b n) := by
  pointwise []

/-- What the carried buffers hold before trip `k`: the recurrence's coefficients, the trip's number, the state before
    position `k`, and the results of the positions before it. -/
structure LoopAt (V : Valuation τ sig (Elt Ideal)) (I : Fin 2 → Mamba.Inputs) (k : ℕ) : Prop where
  decay : ∀ (l : Fin 2048) (b : Fin 2) (d : Fin 2048) (n : Fin 16), V (Proc.devRef .tc main_v67_0) (ix4 l b d n)
    = Ideal.exp (-Ideal.exp ((I b).Al d n) * Mamba.step (I b) l.val d)
  input : ∀ (l : Fin 2048) (b : Fin 2) (d : Fin 2048) (n : Fin 16), V (Proc.devRef .tc main_v67_1) (ix4 l b d n)
    = Mamba.step (I b) l.val d * Mamba.act (I b) l.val d * Mamba.low (I b) l.val ⟨64 + n.val, by omega⟩
  weight : ∀ (l : Fin 2048) (b : Fin 2) (n : Fin 16), V (Proc.devRef .tc main_v67_2) (ix3 l b n)
    = Mamba.low (I b) l.val ⟨80 + n.val, by omega⟩
  trip : V (Proc.devRef .tc main_v67_3) = (fun _ => BitVec.ofNat 32 k : IVec S_ 32)
  state : ∀ (b : Fin 2) (d : Fin 2048) (n : Fin 16), V (Proc.devRef .tc main_v67_4) (ix3 b d n) = Mamba.state (I b) k n d
  rows : ∀ (l : Fin 2048) (b : Fin 2) (d : Fin 2048), l.val < k →
    V (Proc.devRef .tc main_v67_5) (ix3 l b d) = Mamba.scan (I b) l.val d

/-- Trip `k`'s new state is the state before position `k + 1`. -/
theorem trip_state {k : ℕ} (hk : k < 2048) (H : LoopAt V I k) (b : Fin 2) (d : Fin 2048) (n : Fin 16) :
    res_main_while0b_v80 V (ix3 b d n) = Mamba.state (I b) (k + 1) n d := by
  unfold res_main_while0b_v80
  rw [H.trip]
  exact congrArg₂ (fun p q : EReal => p + q)
    (congrArg₂ (fun p q : EReal => p * q) ((read_slab4 hk _ b d n).trans (H.decay ⟨k, hk⟩ b d n)) (H.state b d n))
    ((read_slab4 hk _ b d n).trans (H.input ⟨k, hk⟩ b d n))

/-- Trip `k` leaves the results of the positions up to `k`. -/
theorem trip_rows {k : ℕ} (hk : k < 2048) (H : LoopAt V I k) (l : Fin 2048) (b : Fin 2) (d : Fin 2048) (hl : l.val < k + 1) :
    step_main_v67_5 V (ix3 l b d) = Mamba.scan (I b) l.val d := by
  unfold step_main_v67_5
  rw [H.trip]
  refine (write_slab hk _ _ l b d).trans ?_
  by_cases h : l.val = k
  · rw [if_pos h, h]
    refine (weighted _ _ b d).trans ?_
    refine Finset.sum_congr rfl fun n _ => ?_
    exact congrArg₂ (fun p q : EReal => p * q) (trip_state hk H b d n)
      ((read_slab3 hk _ b n).trans (H.weight ⟨k, hk⟩ b n))
  · rw [if_neg h]
    exact H.rows l b d (by omega)

/-- One trip. -/
theorem trip_step {k : ℕ} (hk : k < 2048) (H : LoopAt V I k) : LoopAt (STEP V) I (k + 1) where
  decay l b d n := by rw [STEP_main_v67_0]; exact H.decay l b d n
  input l b d n := by rw [STEP_main_v67_1]; exact H.input l b d n
  weight l b n := by rw [STEP_main_v67_2]; exact H.weight l b n
  trip := by
    rw [STEP_main_v67_3]
    unfold step_main_v67_3
    rw [H.trip]
    funext i
    exact (BitVec.ofNat_add k 1).symm
  state b d n := by rw [STEP_main_v67_4]; exact trip_state hk H b d n
  rows l b d hl := by rw [STEP_main_v67_5]; exact trip_rows hk H l b d hl

/-- Contents that agree on the carried buffers hold the same before a trip. -/
theorem LoopAt.congr {V' : Valuation τ sig (Elt Ideal)} {k : ℕ} (h : Agree V' V) (H : LoopAt V I k) : LoopAt V' I k where
  decay l b d n := by rw [h main_v67_0 (by decide)]; exact H.decay l b d n
  input l b d n := by rw [h main_v67_1 (by decide)]; exact H.input l b d n
  weight l b n := by rw [h main_v67_2 (by decide)]; exact H.weight l b n
  trip := by rw [h main_v67_3 (by decide)]; exact H.trip
  state b d n := by rw [h main_v67_4 (by decide)]; exact H.state b d n
  rows l b d hl := by rw [h main_v67_5 (by decide)]; exact H.rows l b d hl

/-- Every trip, from contents that hold the start. -/
theorem trips (H : LoopAt V I 0) : ∀ k, k ≤ 2048 → LoopAt (STEP^[k] V) I k
  | 0, _ => H
  | k + 1, hk => by rw [Function.iterate_succ_apply']; exact trip_step hk (trips H k (by omega))

end Cert.ReferenceIdeal.Own
end
-- ==== Proof.RefValue.lean ====
module

public import proofs.«01_k».proof.Proof.RefLoop

@[expose] public section

set_option maxRecDepth 16384

noncomputable section

namespace Cert.ReferenceIdeal.Own

open Cert.ReferenceIdeal Cert.ReferenceIdeal.Gen Cert.ReferenceIdeal.Value
open Idealize.ShloMosaic Idealize.ShloMosaic.TcCoe Idealize.ShloMosaic.Tactic Idealize.SL.Sem Idealize.ShloMosaic.StableHlo

variable {V : Valuation τ sig (Elt Ideal)} {I : Fin 2 → Mamba.Inputs}

/-! ## The reference's result array, and its arguments -/

/-- The argument buffers. -/
abbrev argRefs : List (Ref sig .tc) :=
  [main_arg0, main_arg1, main_arg2, main_arg3, main_arg4, main_arg5, main_arg6, main_arg7, main_arg8, main_arg9]

/-- A line of operations, given by the buffers it writes, that leaves each buffer of a list as it was. -/
theorem keeps_of {ops : List (HloOp τ sig (Elt Ideal))} {W : List (Ref sig .tc)}
    (hw : ops.Forall fun op => op.writes ⊆ (W.map (Proc.devRef (τ := τ) .tc)).toFinset) (rs : List (Ref sig .tc))
    (hr : ∀ r ∈ rs, r ∉ W) (V : Valuation τ sig (Elt Ideal)) :
    ∀ r ∈ rs, after ops V (Proc.devRef .tc r) = V (Proc.devRef .tc r) :=
  fun r h => after_of_writes_sub ops V hw (hr r h)

/-- Contents that agree on the arguments hold the same inputs. -/
theorem Args.congr {V' : Valuation τ sig (Elt Ideal)}
    (h : ∀ r ∈ argRefs, V' (Proc.devRef .tc r) = V (Proc.devRef .tc r)) (H : Args V I) : Args V' I where
  X b l k := by rw [h main_arg0 (by decide)]; exact H.X b l k
  Wi b e k := by rw [h main_arg1 (by decide)]; exact H.Wi b e k
  Cw b d k := by rw [h main_arg2 (by decide)]; exact H.Cw b d k
  Cb b d := by rw [h main_arg3 (by decide)]; exact H.Cb b d
  Xp b e d := by rw [h main_arg4 (by decide)]; exact H.Xp b e d
  Dtw b d r := by rw [h main_arg5 (by decide)]; exact H.Dtw b d r
  Dtb b d := by rw [h main_arg6 (by decide)]; exact H.Dtb b d
  Wo b e d := by rw [h main_arg7 (by decide)]; exact H.Wo b e d
  Al b d n := by rw [h main_arg8 (by decide)]; exact H.Al b d n
  Dd b d := by rw [h main_arg9 (by decide)]; exact H.Dd b d

/-- What the loop's first trip finds: the inputs, the activation, the gate, and the recurrence's start. -/
structure Entry (V : Valuation τ sig (Elt Ideal)) (I : Fin 2 → Mamba.Inputs) : Prop where
  args : Args V I
  act : ∀ (b : Fin 2) (l d : Fin 2048), V (Proc.devRef .tc main_v36) (ix3 b l d) = Mamba.act (I b) l.val d
  gate : ∀ (b : Fin 2) (l d : Fin 2048), V (Proc.devRef .tc main_v2) (ix3 b l d) = Mamba.gate (I b) l.val d

/-- The loop's counter starts at zero. -/
theorem read_v67_3 : after hostOps0_6 V (Proc.devRef .tc main_v67_3) = (fun _ => BitVec.ofNat 32 0 : IVec S_ 32) := by
  after_reads_simp
  rfl

/-- The stretches before the loop. -/
theorem entry (H : Args V I) : Entry (afterL preI V) I ∧ LoopAt (afterL preI V) I 0 := by
  simp only [afterL_cons, afterL_nil]
  have k0 := keeps_of hostOps0_writes argRefs (by decide +kernel) V
  have H0 := H.congr k0
  have g0 := read_v2 H
  have v1 := read_v1 H
  have vc := read_c (V := V)
  generalize after hostOps0 V = V0 at H0 g0 v1 vc ⊢
  have k1 := keeps_of hostOps0_1_writes (main_v2 :: argRefs) (by decide +kernel) V0
  have H1 := H0.congr fun r hr => k1 r (List.mem_cons_of_mem _ hr)
  have g1 : ∀ b l d, after hostOps0_1 V0 (Proc.devRef .tc main_v2) (ix3 b l d) = _ := fun b l d => (congrFun (k1 main_v2 (by decide)) _).trans (g0 b l d)
  have v3 := read_v3 vc v1
  generalize after hostOps0_1 V0 = V1 at H1 g1 v3 ⊢
  have k2 := keeps_of hostOps0_2_writes (main_v2 :: argRefs) (by decide +kernel) V1
  have H2 := H1.congr fun r hr => k2 r (List.mem_cons_of_mem _ hr)
  have g2 : ∀ b l d, after hostOps0_2 V1 (Proc.devRef .tc main_v2) (ix3 b l d) = _ := fun b l d => (congrFun (k2 main_v2 (by decide)) _).trans (g1 b l d)
  have v35 := read_v35 H1 v3
  generalize after hostOps0_2 V1 = V2 at H2 g2 v35 ⊢
  have k3 := keeps_of hostOps0_3_writes (main_v2 :: argRefs) (by decide +kernel) V2
  have H3 := H2.congr fun r hr => k3 r (List.mem_cons_of_mem _ hr)
  have g3 : ∀ b l d, after hostOps0_3 V2 (Proc.devRef .tc main_v2) (ix3 b l d) = _ := fun b l d => (congrFun (k3 main_v2 (by decide)) _).trans (g2 b l d)
  have v36 := read_v36 v35
  generalize after hostOps0_3 V2 = V3 at H3 g3 v36 ⊢
  have k4 := keeps_of hostOps0_4_writes (main_v36 :: main_v2 :: argRefs) (by decide +kernel) V3
  have H4 := H3.congr fun r hr => k4 r (List.mem_cons_of_mem _ (List.mem_cons_of_mem _ hr))
  have g4 : ∀ b l d, after hostOps0_4 V3 (Proc.devRef .tc main_v2) (ix3 b l d) = _ := fun b l d => (congrFun (k4 main_v2 (by decide)) _).trans (g3 b l d)
  have a4 : ∀ b l d, after hostOps0_4 V3 (Proc.devRef .tc main_v36) (ix3 b l d) = _ := fun b l d => (congrFun (k4 main_v36 (by decide)) _).trans (v36 b l d)
  have v39 := read_v39 H3 v36
  have v40 := read_v40 H3 v36
  have v44 := read_v44 H3 v36
  generalize after hostOps0_4 V3 = V4 at H4 g4 a4 v39 v40 v44 ⊢
  have k5 := keeps_of hostOps0_5_writes (main_v39 :: main_v40 :: main_v36 :: main_v2 :: argRefs) (by decide +kernel) V4
  have H5 := H4.congr fun r hr => k5 r (List.mem_cons_of_mem _ (List.mem_cons_of_mem _ (List.mem_cons_of_mem _ (List.mem_cons_of_mem _ hr))))
  have g5 : ∀ b l d, after hostOps0_5 V4 (Proc.devRef .tc main_v2) (ix3 b l d) = _ := fun b l d => (congrFun (k5 main_v2 (by decide)) _).trans (g4 b l d)
  have a5 : ∀ b l d, after hostOps0_5 V4 (Proc.devRef .tc main_v36) (ix3 b l d) = _ := fun b l d => (congrFun (k5 main_v36 (by decide)) _).trans (a4 b l d)
  have b5 : ∀ b l n, after hostOps0_5 V4 (Proc.devRef .tc main_v39) (ix3 b l n) = _ := fun b l n => (congrFun (k5 main_v39 (by decide)) _).trans (v39 b l n)
  have c5 : ∀ b l n, after hostOps0_5 V4 (Proc.devRef .tc main_v40) (ix3 b l n) = _ := fun b l n => (congrFun (k5 main_v40 (by decide)) _).trans (v40 b l n)
  have v45 : ∀ b l d, after hostOps0_5 V4 (Proc.devRef .tc main_v45) (ix3 b l d) = _ := fun b l d => (read_v45 b l d).trans (v44 b l d)
  generalize after hostOps0_5 V4 = V5 at H5 g5 a5 b5 c5 v45 ⊢
  have k6 := keeps_of hostOps0_6_writes (main_v36 :: main_v2 :: argRefs) (by decide +kernel) V5
  exact ⟨⟨H5.congr fun r hr => k6 r (List.mem_cons_of_mem _ (List.mem_cons_of_mem _ hr)),
      fun b l d => (congrFun (k6 main_v36 (by decide)) _).trans (a5 b l d),
      fun b l d => (congrFun (k6 main_v2 (by decide)) _).trans (g5 b l d)⟩,
    ⟨read_v67_0 H5 v45, read_v67_1 v45 a5 b5, read_v67_2 c5, read_v67_3, read_v67_4, fun _ _ _ h => absurd h (Nat.not_lt_zero _)⟩⟩

/-- The buffers that the loop leaves as they were and that are read after it. -/
abbrev outerRefs : List (Ref sig .tc) := main_v36 :: main_v2 :: argRefs

/-- Every trip leaves them as they were. -/
theorem loop_keeps (W : Dev nD → Valuation τ sig (Elt Ideal)) (c : Dev nD) : ∀ (k : ℕ), ∀ r ∈ outerRefs,
    atTrip condOps bodyI W k c (Proc.devRef .tc r) = W c (Proc.devRef .tc r)
  | 0, _, _ => rfl
  | k + 1, r, hr => by
    rw [atTrip_succ]
    simp only [afterL_cons, afterL_nil]
    rw [keeps_of while0Ops0_5_writes outerRefs (by decide +kernel) _ r hr,
      keeps_of while0Ops0_4_writes outerRefs (by decide +kernel) _ r hr,
      keeps_of while0Ops0_3_writes outerRefs (by decide +kernel) _ r hr,
      keeps_of while0Ops0_2_writes outerRefs (by decide +kernel) _ r hr,
      keeps_of while0Ops0_1_writes outerRefs (by decide +kernel) _ r hr,
      keeps_of while0Ops0_writes outerRefs (by decide +kernel) _ r hr,
      keeps_of condOps_writes outerRefs (by decide +kernel) _ r hr]
    exact loop_keeps W c k r hr

/-- What the operations after the loop find. -/
theorem exit (m : (ℓ : Loc nD τ sig) → Buf (Elt Ideal) ℓ) (c : Dev nD) (H : Args (launchContents m c) I) :
    Entry (after condOps (atK m 2048 c)) I ∧ ∀ (l : Fin 2048) (b : Fin 2) (d : Fin 2048),
      after condOps (atK m 2048 c) (Proc.devRef .tc main_v67_5) (ix3 l b d) = Mamba.scan (I b) l.val d := by
  obtain ⟨E, L⟩ := entry H
  have hk : ∀ r ∈ outerRefs, after condOps (atK m 2048 c) (Proc.devRef .tc r) = entryContents preI m c (Proc.devRef .tc r) :=
    fun r hr => (keeps_of condOps_writes outerRefs (by decide +kernel) _ r hr).trans (loop_keeps _ c 2048 r hr)
  have hL : LoopAt (after condOps (atK m 2048 c)) I 2048 :=
    ((trips L 2048 le_rfl).congr (atK_agree m c 2048)).congr (cond_keeps _)
  exact ⟨⟨E.args.congr fun r hr => hk r (List.mem_cons_of_mem _ (List.mem_cons_of_mem _ hr)),
    fun b l d => (congrFun (hk main_v36 (by decide)) _).trans (E.act b l d),
    fun b l d => (congrFun (hk main_v2 (by decide)) _).trans (E.gate b l d)⟩,
    fun l b d => hL.rows l b d l.isLt⟩

/-- The reference's result array: at sequence `b`, row `l` and column `e`, that sequence's block output. -/
theorem result (m : (ℓ : Loc nD τ sig) → Buf (Elt Ideal) ℓ) (c : Dev nD) (H : Args (launchContents m c) I)
    (b : Fin 2) (l : Fin 2048) (e : Fin 1024) :
    finalContents condOps preI bodyI postI 2048 m c (Proc.devRef .tc main_v75) (ix3 b l e) = Mamba.out (I b) l.val e :=
  let ⟨E, hR⟩ := exit m c H
  read_v75 E.args E.act E.gate hR b l e

end Cert.ReferenceIdeal.Own
end
-- ==== Proof.Equation.lean ====
module

public import proofs.«01_k».proof.Defs
public import proofs.«01_k».proof.Proof.Grid
public import proofs.«01_k».proof.Proof.RefValue

@[expose] public section

set_option maxRecDepth 16384

noncomputable section

namespace Cert.ReferenceIdeal.Own

open Cert.ReferenceIdeal Cert.ReferenceIdeal.Gen Cert.ReferenceIdeal.Value
open Idealize.ShloMosaic Idealize.ShloMosaic.TcCoe Idealize.ShloMosaic.Tactic Idealize.SL.Sem Idealize.ShloMosaic.StableHlo

/-! ## The reference's whole run -/

variable (m : (ℓ : Loc nD τ sig) → Buf (Elt Ideal) ℓ)

/-- The inputs of sequence `b`, read off the reference's ten arguments. -/
def seqInputs (c : Dev nD) (b : Fin 2) : Mamba.Inputs :=
  Mamba.inputs (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) b

/-- At the launch the argument buffers hold the sequences' inputs. -/
theorem args (c : Dev nD) : Args (launchContents m c) (seqInputs m c) where
  X b l k := by
    simp only [seqInputs, Mamba.inputs, dif_pos l.isLt]
  Wi _ _ _ := rfl
  Cw _ _ _ := rfl
  Cb _ _ := rfl
  Xp _ _ _ := rfl
  Dtw _ _ _ := rfl
  Dtb _ _ := rfl
  Wo _ _ _ := rfl
  Al _ _ _ := rfl
  Dd _ _ := rfl

/-- The stretches before the loop leave the arguments as they were. -/
theorem pre_keeps (V : Valuation τ sig (Elt Ideal)) (r : Ref sig .tc) (hr : r ∈ argRefs) :
    afterL preI V (Proc.devRef .tc r) = V (Proc.devRef .tc r) := by
  simp only [afterL_cons, afterL_nil]
  rw [keeps_of hostOps0_6_writes argRefs (by decide +kernel) _ r hr,
    keeps_of hostOps0_5_writes argRefs (by decide +kernel) _ r hr,
    keeps_of hostOps0_4_writes argRefs (by decide +kernel) _ r hr,
    keeps_of hostOps0_3_writes argRefs (by decide +kernel) _ r hr,
    keeps_of hostOps0_2_writes argRefs (by decide +kernel) _ r hr,
    keeps_of hostOps0_1_writes argRefs (by decide +kernel) _ r hr,
    keeps_of hostOps0_writes argRefs (by decide +kernel) _ r hr]

/-- The stretches after the loop leave the arguments as they were. -/
theorem post_keeps (V : Valuation τ sig (Elt Ideal)) (r : Ref sig .tc) (hr : r ∈ argRefs) :
    afterL postI V (Proc.devRef .tc r) = V (Proc.devRef .tc r) := by
  simp only [afterL_cons, afterL_nil]
  fin_cases hr <;> after_results

/-- So at the end of the run every argument is what it was at the launch. -/
theorem args_kept (c : Dev nD) (r : Ref sig .tc) (hr : r ∈ argRefs) :
    finalContents condOps preI bodyI postI 2048 m c (Proc.devRef .tc r) = m ((c.tc : Thread nD τ).loc r) :=
  (post_keeps _ r hr).trans <| (keeps_of condOps_writes argRefs (by decide +kernel) _ r hr).trans <|
    (loop_keeps _ c 2048 r (List.mem_cons_of_mem _ (List.mem_cons_of_mem _ hr))).trans (pre_keeps _ r hr)

/-- The reference's run at the extended reals: it terminates, its result holds the block's output of each sequence,
    and its arguments are as they were. -/
theorem run (ρ : Dev nD → PrngReg) :
    θ_run (defs (F := Ideal)) (onTc (τ := τ) (main (F := Ideal))) ⟨m, fun _ => 0, ρ⟩ fun r => ∀ c : Dev nD,
      (∀ (b : Fin 2) (l : Fin 2048) (e : Fin 1024),
        (r.2.mem ((c.tc : Thread nD τ).loc main_v75) : FVec Ideal S2x2048x1024 .f32) (ix3 b l e) = Mamba.out (seqInputs m c b) l.val e)
      ∧ ∀ a ∈ argRefs, r.2.mem ((c.tc : Thread nD τ).loc a) = m ((c.tc : Thread nD τ).loc a) :=
  (θ_run _ _ _).mono (fun r h c =>
    ⟨fun b l e => (congrFun (h c main_v75 (by decide)) (ix3 b l e)).trans (result m c (args m c) b l e),
      fun a ha => (h c a ((by decide : ∀ a ∈ argRefs, (Proc.devRef .tc a : DevRef τ sig).isScoped = false) a ha)).trans (args_kept m c a ha)⟩)
    (run_fold m ρ)

/-- The reference's frame: it terminates, its arguments are as they were, and every semaphore counter is zero (it has none). -/
theorem frame [Cert.ReferenceIdeal.Facts] : Cert.quiescent_ReferenceIdeal := fun m ρ _ =>
  (θ_run _ _ _).mono (fun r h => ⟨fun c =>
    have k := (h c).2
    ⟨k _ (by decide), k _ (by decide), k _ (by decide), k _ (by decide), k _ (by decide), k _ (by decide), k _ (by decide),
      k _ (by decide), k _ (by decide), k _ (by decide)⟩, sem_eq_zero_of_no_sems rfl _⟩) (run m ρ)

/-- From memories that agree on the arguments, the kernel's and the reference's result arrays are equal: at each
    sequence, row and column both are the same block output. -/
theorem algebraic [Cert.KernelIdeal.Facts] [Cert.ReferenceIdeal.Facts] : Cert.algebraic_KernelIdeal_ReferenceIdeal :=
  fun m ρ m' ρ' _ hm => by
  refine ⟨fun c => Cert.KernelIdeal.Value.G10 m c, Cert.KernelIdeal.Value.run m ρ, (θ_run _ _ _).mono (fun r h c => ?_) (run m' ρ')⟩
  have k := (h c).2
  refine ⟨?_, k _ (by decide), k _ (by decide), k _ (by decide), k _ (by decide), k _ (by decide), k _ (by decide), k _ (by decide),
      k _ (by decide), k _ (by decide), k _ (by decide)⟩
  obtain ⟨h0, h1, h2, h3, h4, h5, h6, h7, h8, h9⟩ := hm c
  have same : ∀ b, seqInputs m' c b = Cert.KernelIdeal.Own.seqInputs m c b := fun b => by
    unfold seqInputs Cert.KernelIdeal.Own.seqInputs
    rw [h0, h1, h2, h3, h4, h5, h6, h7, h8, h9]
  funext i
  have hi : i = ix3 (i 0 : Fin 2) (i 1 : Fin 2048) (i 2 : Fin 1024) := by
    funext a; match a with | ⟨0, _⟩ => rfl | ⟨1, _⟩ => rfl | ⟨2, _⟩ => rfl
  rw [hi]
  exact ((h c).1 _ _ _).trans ((congrArg (fun I => Mamba.out I _ _) (same _)).trans (Cert.KernelIdeal.Own.result m c _ _ _).symm)

end Cert.ReferenceIdeal.Own
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The certificate: the three frames, the kernel's idealization (no operation rewritten), and the equality of the
    kernel's and the reference's results over the extended reals. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.ReferenceIdeal.Own.frame,
  trivial, Cert.ReferenceIdeal.Own.algebraic⟩

end Cert.Proof

end
